-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "third1" .f32 0x3EAAAAAB#32 ((1 / 3 : ℝ) : EReal)
  ∧ IdealRules.named_const.Statement Cert.KernelIdeal.κ "third2" .f32 0x3F2AAAAB#32 ((2 / 3 : ℝ) : EReal)
  ∧ IdealRules.named_const.Statement Cert.KernelIdeal.κ "tenth1" .f32 0x3DCCCCCD#32 ((1 / 10 : ℝ) : EReal)
  ∧ IdealRules.named_const.Statement Cert.KernelIdeal.κ "tenth2" .f32 0x3E4CCCCD#32 ((1 / 5 : ℝ) : EReal)
  ∧ IdealRules.named_const.Statement Cert.KernelIdeal.κ "tenth3" .f32 0x3E99999A#32 ((3 / 10 : ℝ) : EReal)
  ∧ IdealRules.named_const.Statement Cert.KernelIdeal.κ "tenth4" .f32 0x3ECCCCCD#32 ((2 / 5 : ℝ) : EReal)
  ∧ IdealRules.named_const.Statement Cert.KernelIdeal.κ "tenth6" .f32 0x3F19999A#32 ((3 / 5 : ℝ) : EReal)
  ∧ IdealRules.named_const.Statement Cert.KernelIdeal.κ "tenth7" .f32 0x3F333333#32 ((7 / 10 : ℝ) : EReal)
  ∧ IdealRules.named_const.Statement Cert.KernelIdeal.κ "tenth8" .f32 0x3F4CCCCD#32 ((4 / 5 : ℝ) : EReal)
  ∧ IdealRules.named_const.Statement Cert.KernelIdeal.κ "tenth9" .f32 0x3F666666#32 ((9 / 10 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S16384x1000 : Shape := ⟨2, ![16384, 1000]⟩
abbrev S10 : Shape := ⟨1, ![10]⟩
abbrev S3000 : Shape := ⟨1, ![3000]⟩
abbrev S_ : Shape := ⟨0, ![]⟩

class Facts : Prop where
  bcast_S_S16384x1000 : S_.BroadcastsInDim S16384x1000 (![] : Fin 0 → Fin S16384x1000.rank)
  bcast_S_S10 : S_.BroadcastsInDim S10 (![] : Fin 0 → Fin S10.rank)
  bcast_S_S3000 : S_.BroadcastsInDim S3000 (![] : Fin 0 → Fin S3000.rank)

variable [Facts]

def fn {F : FTy → Type} [FloatOps F] (main_arg0 : FVec F S16384x1000 .f32) (main_arg1 : FVec F S16384x1000 .f32) (main_arg2 : FVec F S16384x1000 .f32) (main_arg3 : FVec F S10 .f32) (main_arg4 : FVec F S3000 .f32) : IVec S16384x1000 1 × IVec S16384x1000 1 × IVec S10 1 × IVec S3000 1 :=
  let main_cst : FVec F S_ .f32 := constant S_ .f32 0x00000000#32
  let main_v0 : FVec F S16384x1000 .f32 := broadcastInDim S16384x1000 ![] bcast_S_S16384x1000 main_cst
  let main_v1 : IVec S16384x1000 1 := cmpf .oge main_arg1 main_v0
  let main_cst_0 : FVec F S_ .f32 := constant S_ .f32 0x3F800000#32
  let main_v2 : FVec F S16384x1000 .f32 := broadcastInDim S16384x1000 ![] bcast_S_S16384x1000 main_cst_0
  let main_v3 : IVec S16384x1000 1 := cmpf .ole main_arg1 main_v2
  let main_v4 : IVec S16384x1000 1 := andi main_v1 main_v3
  let main_cst_1 : FVec F S_ .f32 := constant S_ .f32 0x3F800000#32
  let main_v5 : FVec F S16384x1000 .f32 := broadcastInDim S16384x1000 ![] bcast_S_S16384x1000 main_cst_1
  let main_v6 : IVec S16384x1000 1 := cmpf .oeq main_arg2 main_v5
  let main_cst_2 : FVec F S_ .f32 := constant S_ .f32 0x00000000#32
  let main_v7 : FVec F S10 .f32 := broadcastInDim S10 ![] bcast_S_S10 main_cst_2
  let main_v8 : IVec S10 1 := cmpf .oge main_arg3 main_v7
  let main_cst_3 : FVec F S_ .f32 := constant S_ .f32 0x00000000#32
  let main_v9 : FVec F S3000 .f32 := broadcastInDim S3000 ![] bcast_S_S3000 main_cst_3
  let main_v10 : IVec S3000 1 := cmpf .oge main_arg4 main_v9
  (main_v4, main_v6, main_v8, main_v10)
-- ==== Kernel.lean ====
abbrev S16384x1000 : Shape := ⟨2, ![16384, 1000]⟩
abbrev S10 : Shape := ⟨1, ![10]⟩
abbrev S3000 : Shape := ⟨1, ![3000]⟩
abbrev S1000x3 : Shape := ⟨2, ![1000, 3]⟩
abbrev S3x1000 : Shape := ⟨2, ![3, 1000]⟩
abbrev S10x1 : Shape := ⟨2, ![10, 1]⟩
abbrev S1x1 : Shape := ⟨2, ![1, 1]⟩
abbrev S2048x1000 : Shape := ⟨2, ![2048, 1000]⟩
abbrev S1x1000 : Shape := ⟨2, ![1, 1000]⟩
abbrev S9x1000 : Shape := ⟨2, ![9, 1000]⟩
abbrev S2x1000 : Shape := ⟨2, ![2, 1000]⟩
abbrev S1 : Shape := ⟨1, ![1]⟩
abbrev S8x1000 : Shape := ⟨2, ![8, 1000]⟩
abbrev S1000 : Shape := ⟨1, ![1000]⟩
abbrev S10x1000 : Shape := ⟨2, ![10, 1000]⟩
abbrev S3 : Shape := ⟨1, ![3]⟩
abbrev S3x1 : Shape := ⟨2, ![3, 1]⟩
abbrev S_ : Shape := ⟨0, ![]⟩

abbrev nBuf : Space → Nat
  | .hbm => 15
  | .vmem => 12
  | .smem => 1
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S10, .f32⟩
  | .hbm, ⟨4, _⟩ => ⟨S3000, .f32⟩
  | .hbm, ⟨5, _⟩ => ⟨S1000x3, .f32⟩
  | .hbm, ⟨6, _⟩ => ⟨S3x1000, .f32⟩
  | .hbm, ⟨7, _⟩ => ⟨S10x1, .f32⟩
  | .hbm, ⟨8, _⟩ => ⟨S1x1, .f32⟩
  | .hbm, ⟨9, _⟩ => ⟨S10x1, .f32⟩
  | .hbm, ⟨10, _⟩ => ⟨S3x1000, .f32⟩
  | .hbm, ⟨11, _⟩ => ⟨S_, .f32⟩
  | .hbm, ⟨12, _⟩ => ⟨S10, .f32⟩
  | .hbm, ⟨13, _⟩ => ⟨S1000x3, .f32⟩
  | .hbm, ⟨14, _⟩ => ⟨S3000, .f32⟩
  | .local _ .vmem, ⟨0, _⟩ => ⟨S2048x1000, .f32⟩
  | .local _ .vmem, ⟨1, _⟩ => ⟨S2048x1000, .f32⟩
  | .local _ .vmem, ⟨2, _⟩ => ⟨S2048x1000, .f32⟩
  | .local _ .vmem, ⟨3, _⟩ => ⟨S2048x1000, .f32⟩
  | .local _ .vmem, ⟨4, _⟩ => ⟨S3x1000, .f32⟩
  | .local _ .vmem, ⟨5, _⟩ => ⟨S10x1, .f32⟩
  | .local _ .vmem, ⟨6, _⟩ => ⟨S1x1, .f32⟩
  | .local _ .vmem, ⟨7, _⟩ => ⟨S10x1, .f32⟩
  | .local _ .vmem, ⟨8, _⟩ => ⟨S3x1000, .f32⟩
  | .local _ .vmem, ⟨9, _⟩ => ⟨S1x1000, .f32⟩
  | .local _ .vmem, ⟨10, _⟩ => ⟨S9x1000, .f32⟩
  | .local _ .vmem, ⟨11, _⟩ => ⟨S2x1000, .f32⟩
  | .local _ .smem, ⟨0, _⟩ => ⟨S10, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_25 : BitVec 32 := 0#32
  let c4_i32 : BitVec 32 := 4#32
  let v54 : BitVec 32 := Scalar.addi c0_i32_25 c4_i32
  let c1_i32 : BitVec 32 := 1#32
  ⟨c0_i32_25, v54, c1_i32⟩
def k0_off1 (k0_t1 : Fin k0_t1_loop.trips) (c0_i32_93 : BitVec 32) : Fin 2 → Nat :=
  let c0_i32_25 : BitVec 32 := 0#32
  let c1_i32 : BitVec 32 := 1#32
  let arg12 : BitVec 32 := Scf.iv c0_i32_25 c1_i32 k0_t1
  let c512_i32 : BitVec 32 := 512#32
  let v163 : BitVec 32 := Scalar.muli arg12 c512_i32
  let v164 : BitVec 32 := Scalar.addi v163 c0_i32_93
  let v165 : Index := Scalar.indexCast v164
  let c0_94 : Index := 0#32
  ![v165.toNat, 0]
def k0_cond2 (i : grid0.Coords) : BitVec 1 :=
  let arg0 : BitVec 32 := BitVec.ofNat 32 (i 0).val
  let c7_i32 : BitVec 32 := 7#32
  let v160 : BitVec 1 := Scalar.cmpi .eq arg0 c7_i32
  let v161 : BitVec 32 := Scalar.extui v160
  let c0_i32_92 : BitVec 32 := 0#32
  let v162 : BitVec 1 := Scalar.cmpi .ne v161 c0_i32_92
  v162

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "tenth1" => some ((1 / 10 : ℝ) : EReal)
  | "tenth2" => some ((1 / 5 : ℝ) : EReal)
  | "tenth3" => some ((3 / 10 : ℝ) : EReal)
  | "tenth4" => some ((2 / 5 : ℝ) : EReal)
  | "tenth6" => some ((3 / 5 : ℝ) : EReal)
  | "tenth7" => some ((7 / 10 : ℝ) : EReal)
  | "tenth8" => some ((4 / 5 : ℝ) : EReal)
  | "tenth9" => some ((9 / 10 : ℝ) : EReal)
  | "third1" => some ((1 / 3 : ℝ) : EReal)
  | "third2" => some ((2 / 3 : ℝ) : EReal)
  | _ => none
-- ==== ReferenceIdeal.lean ====
abbrev S16384x1000 : Shape := ⟨2, ![16384, 1000]⟩
abbrev S10 : Shape := ⟨1, ![10]⟩
abbrev S3000 : Shape := ⟨1, ![3000]⟩
abbrev S_ : Shape := ⟨0, ![]⟩
abbrev S16384x1000x1 : Shape := ⟨3, ![16384, 1000, 1]⟩
abbrev S1000 : Shape := ⟨1, ![1000]⟩
abbrev S1x1000 : Shape := ⟨2, ![1, 1000]⟩
abbrev S16384000 : Shape := ⟨1, ![16384000]⟩
abbrev S16384000x1 : Shape := ⟨2, ![16384000, 1]⟩

abbrev nBuf : Space → Nat
  | .hbm => 189
  | .vmem => 0
  | .smem => 0
  | _ => 0

abbrev hbmTy0_0 (i : Nat) : BufTy := match i % 128 with
  | 0 => ⟨S16384x1000, .f32⟩
  | 1 => ⟨S16384x1000, .f32⟩
  | 2 => ⟨S16384x1000, .f32⟩
  | 3 => ⟨S10, .f32⟩
  | 4 => ⟨S3000, .f32⟩
  | 5 => ⟨S_, .f32⟩
  | 6 => ⟨S_, .f32⟩
  | 7 => ⟨S_, .f32⟩
  | 8 => ⟨S16384x1000, .f32⟩
  | 9 => ⟨S16384x1000, .f32⟩
  | 10 => ⟨S_, .f32⟩
  | 11 => ⟨S16384x1000, .f32⟩
  | 12 => ⟨S16384x1000, .f32⟩
  | 13 => ⟨S_, .f32⟩
  | 14 => ⟨S_, .f32⟩
  | 15 => ⟨S16384x1000, .f32⟩
  | 16 => ⟨S16384x1000, .f32⟩
  | 17 => ⟨S16384x1000, .f32⟩
  | 18 => ⟨S16384x1000, .f32⟩
  | 19 => ⟨S16384x1000, .f32⟩
  | 20 => ⟨S16384x1000, .f32⟩
  | 21 => ⟨S16384x1000, .f32⟩
  | 22 => ⟨S16384x1000, .f32⟩
  | 23 => ⟨S16384x1000, .f32⟩
  | 24 => ⟨S16384x1000, .f32⟩
  | 25 => ⟨S16384x1000, .f32⟩
  | 26 => ⟨S_, .f32⟩
  | 27 => ⟨S16384x1000, .f32⟩
  | 28 => ⟨S16384x1000, .f32⟩
  | 29 => ⟨S_, .f32⟩
  | 30 => ⟨S16384x1000, .f32⟩
  | 31 => ⟨S16384x1000, .f32⟩
  | 32 => ⟨S16384x1000, .f32⟩
  | 33 => ⟨S16384x1000, .f32⟩
  | 34 => ⟨S_, .f32⟩
  | 35 => ⟨S16384x1000, .f32⟩
  | 36 => ⟨S16384x1000, .f32⟩
  | 37 => ⟨S16384x1000, .f32⟩
  | 38 => ⟨S16384x1000, .i32⟩
  | 39 => ⟨S_, .i32⟩
  | 40 => ⟨S_, .i32⟩
  | 41 => ⟨S_, .i32⟩
  | 42 => ⟨S16384x1000, .i32⟩
  | 43 => ⟨S16384x1000, .i32⟩
  | 44 => ⟨S_, .i32⟩
  | 45 => ⟨S16384x1000, .i32⟩
  | 46 => ⟨S16384x1000, .i32⟩
  | 47 => ⟨S_, .i32⟩
  | 48 => ⟨S16384x1000, .i32⟩
  | 49 => ⟨S16384x1000, .i1⟩
  | 50 => ⟨S_, .i32⟩
  | 51 => ⟨S16384x1000, .i32⟩
  | 52 => ⟨S16384x1000, .i32⟩
  | 53 => ⟨S16384x1000, .i32⟩
  | 54 => ⟨S16384x1000x1, .i32⟩
  | 55 => ⟨S16384x1000, .f32⟩
  | 56 => ⟨S_, .f32⟩
  | 57 => ⟨S16384x1000, .f32⟩
  | 58 => ⟨S16384x1000, .f32⟩
  | 59 => ⟨S_, .f32⟩
  | 60 => ⟨S16384x1000, .f32⟩
  | 61 => ⟨S16384x1000, .f32⟩
  | 62 => ⟨S_, .f32⟩
  | 63 => ⟨S16384x1000, .f32⟩
  | 64 => ⟨S16384x1000, .f32⟩
  | 65 => ⟨S16384x1000, .f32⟩
  | 66 => ⟨S16384x1000, .i32⟩
  | 67 => ⟨S_, .i32⟩
  | 68 => ⟨S_, .i32⟩
  | 69 => ⟨S_, .i32⟩
  | 70 => ⟨S16384x1000, .i32⟩
  | 71 => ⟨S16384x1000, .i32⟩
  | 72 => ⟨S_, .i32⟩
  | 73 => ⟨S16384x1000, .i32⟩
  | 74 => ⟨S16384x1000, .i32⟩
  | 75 => ⟨S1000, .i32⟩
  | 76 => ⟨S1x1000, .i32⟩
  | 77 => ⟨S_, .i32⟩
  | 78 => ⟨S1x1000, .i32⟩
  | 79 => ⟨S1x1000, .i32⟩
  | 80 => ⟨S16384x1000, .i32⟩
  | 81 => ⟨S16384x1000, .i32⟩
  | 82 => ⟨S_, .i32⟩
  | 83 => ⟨S16384x1000, .i32⟩
  | 84 => ⟨S16384x1000, .i1⟩
  | 85 => ⟨S_, .i32⟩
  | 86 => ⟨S16384x1000, .i32⟩
  | 87 => ⟨S16384x1000, .i32⟩
  | 88 => ⟨S16384x1000, .i32⟩
  | 89 => ⟨S16384x1000x1, .i32⟩
  | 90 => ⟨S16384x1000, .f32⟩
  | 91 => ⟨S_, .f32⟩
  | 92 => ⟨S16384x1000, .f32⟩
  | 93 => ⟨S16384x1000, .f32⟩
  | 94 => ⟨S_, .f32⟩
  | 95 => ⟨S16384x1000, .f32⟩
  | 96 => ⟨S16384x1000, .f32⟩
  | 97 => ⟨S16384x1000, .f32⟩
  | 98 => ⟨S16384x1000, .f32⟩
  | 99 => ⟨S16384x1000, .f32⟩
  | 100 => ⟨S16384x1000, .f32⟩
  | 101 => ⟨S_, .f32⟩
  | 102 => ⟨S_, .f32⟩
  | 103 => ⟨S_, .f32⟩
  | 104 => ⟨S_, .f32⟩
  | 105 => ⟨S_, .f32⟩
  | 106 => ⟨S16384000, .f32⟩
  | 107 => ⟨S16384000, .i32⟩
  | 108 => ⟨S_, .f32⟩
  | 109 => ⟨S10, .f32⟩
  | 110 => ⟨S_, .i32⟩
  | 111 => ⟨S_, .i32⟩
  | 112 => ⟨S16384000, .i32⟩
  | 113 => ⟨S16384000, .i32⟩
  | 114 => ⟨S_, .i32⟩
  | 115 => ⟨S16384000, .i32⟩
  | 116 => ⟨S16384000, .i1⟩
  | 117 => ⟨S_, .i32⟩
  | 118 => ⟨S16384000, .i32⟩
  | 119 => ⟨S16384000, .i32⟩
  | 120 => ⟨S16384000, .i32⟩
  | 121 => ⟨S16384000x1, .i32⟩
  | 122 => ⟨S10, .f32⟩
  | 123 => ⟨S_, .f32⟩
  | 124 => ⟨S_, .f32⟩
  | 125 => ⟨S_, .f32⟩
  | 126 => ⟨S_, .f32⟩
  | 127 => ⟨S10, .f32⟩
  | _ => ⟨S16384x1000, .f32⟩

abbrev hbmTy0_1 (i : Nat) : BufTy := match i % 128 with
  | 0 => ⟨S10, .f32⟩
  | 1 => ⟨S_, .f32⟩
  | 2 => ⟨S10, .f32⟩
  | 3 => ⟨S10, .f32⟩
  | 4 => ⟨S_, .f32⟩
  | 5 => ⟨S10, .f32⟩
  | 6 => ⟨S10, .f32⟩
  | 7 => ⟨S_, .f32⟩
  | 8 => ⟨S10, .f32⟩
  | 9 => ⟨S10, .f32⟩
  | 10 => ⟨S10, .f32⟩
  | 11 => ⟨S_, .f32⟩
  | 12 => ⟨S_, .f32⟩
  | 13 => ⟨S_, .f32⟩
  | 14 => ⟨S_, .f32⟩
  | 15 => ⟨S10, .f32⟩
  | 16 => ⟨S10, .f32⟩
  | 17 => ⟨S_, .f32⟩
  | 18 => ⟨S10, .f32⟩
  | 19 => ⟨S10, .f32⟩
  | 20 => ⟨S16384000, .i32⟩
  | 21 => ⟨S_, .f32⟩
  | 22 => ⟨S3000, .f32⟩
  | 23 => ⟨S_, .i32⟩
  | 24 => ⟨S_, .i32⟩
  | 25 => ⟨S16384000, .i32⟩
  | 26 => ⟨S16384000, .i32⟩
  | 27 => ⟨S_, .i32⟩
  | 28 => ⟨S16384000, .i32⟩
  | 29 => ⟨S16384000, .i1⟩
  | 30 => ⟨S_, .i32⟩
  | 31 => ⟨S16384000, .i32⟩
  | 32 => ⟨S16384000, .i32⟩
  | 33 => ⟨S16384000, .i32⟩
  | 34 => ⟨S16384000x1, .i32⟩
  | 35 => ⟨S3000, .f32⟩
  | 36 => ⟨S_, .f32⟩
  | 37 => ⟨S_, .f32⟩
  | 38 => ⟨S_, .f32⟩
  | 39 => ⟨S_, .f32⟩
  | 40 => ⟨S3000, .f32⟩
  | 41 => ⟨S3000, .f32⟩
  | 42 => ⟨S_, .f32⟩
  | 43 => ⟨S3000, .f32⟩
  | 44 => ⟨S3000, .f32⟩
  | 45 => ⟨S_, .f32⟩
  | 46 => ⟨S3000, .f32⟩
  | 47 => ⟨S3000, .f32⟩
  | 48 => ⟨S_, .f32⟩
  | 49 => ⟨S3000, .f32⟩
  | 50 => ⟨S3000, .f32⟩
  | 51 => ⟨S3000, .f32⟩
  | 52 => ⟨S_, .f32⟩
  | 53 => ⟨S_, .f32⟩
  | 54 => ⟨S_, .f32⟩
  | 55 => ⟨S_, .f32⟩
  | 56 => ⟨S3000, .f32⟩
  | 57 => ⟨S3000, .f32⟩
  | 58 => ⟨S_, .f32⟩
  | 59 => ⟨S3000, .f32⟩
  | 60 => ⟨S3000, .f32⟩
  | _ => ⟨S16384x1000, .f32⟩

abbrev hbmTy (i : Nat) : BufTy := match i / 128 with
  | 0 => hbmTy0_0 i
  | 1 => hbmTy0_1 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_8 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_cst_10 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_11 : Ref sig .tc := ⟨.hbm, 67, rfl⟩
abbrev main_c_12 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_13 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_14 : Ref sig .tc := ⟨.hbm, 82, rfl⟩
abbrev main_v44 : Ref sig .tc := ⟨.hbm, 83, rfl⟩
abbrev main_v45 : Ref sig .tc := ⟨.hbm, 84, rfl⟩
abbrev main_c_15 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_16 : Ref sig .tc := ⟨.hbm, 91, rfl⟩
abbrev main_v51 : Ref sig .tc := ⟨.hbm, 92, rfl⟩
abbrev main_v52 : Ref sig .tc := ⟨.hbm, 93, rfl⟩
abbrev main_cst_17 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_18 : Ref sig .tc := ⟨.hbm, 101, rfl⟩
abbrev main_v59 : Ref sig .tc := ⟨.hbm, 102, rfl⟩
abbrev main_cst_19 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_20 : Ref sig .tc := ⟨.hbm, 108, rfl⟩
abbrev main_v64 : Ref sig .tc := ⟨.hbm, 109, rfl⟩
abbrev main_c_21 : Ref sig .tc := ⟨.hbm, 110, rfl⟩
abbrev main_call4_v0 : Ref sig .tc := ⟨.hbm, 111, rfl⟩
abbrev main_call4_v1 : Ref sig .tc := ⟨.hbm, 112, rfl⟩
abbrev main_v65 : Ref sig .tc := ⟨.hbm, 113, rfl⟩
abbrev main_c_22 : Ref sig .tc := ⟨.hbm, 114, rfl⟩
abbrev main_v66 : Ref sig .tc := ⟨.hbm, 115, rfl⟩
abbrev main_v67 : Ref sig .tc := ⟨.hbm, 116, rfl⟩
abbrev main_c_23 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_24 : Ref sig .tc := ⟨.hbm, 123, rfl⟩
abbrev main_v73 : Ref sig .tc := ⟨.hbm, 124, rfl⟩
abbrev main_cst_25 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_26 : Ref sig .tc := ⟨.hbm, 129, rfl⟩
abbrev main_v77 : Ref sig .tc := ⟨.hbm, 130, rfl⟩
abbrev main_v78 : Ref sig .tc := ⟨.hbm, 131, rfl⟩
abbrev main_cst_27 : Ref sig .tc := ⟨.hbm, 132, rfl⟩
abbrev main_v79 : Ref sig .tc := ⟨.hbm, 133, rfl⟩
abbrev main_v80 : Ref sig .tc := ⟨.hbm, 134, rfl⟩
abbrev main_cst_28 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_29 : Ref sig .tc := ⟨.hbm, 139, rfl⟩
abbrev main_v84 : Ref sig .tc := ⟨.hbm, 140, rfl⟩
abbrev main_cst_30 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_31 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_32 : Ref sig .tc := ⟨.hbm, 149, rfl⟩
abbrev main_v91 : Ref sig .tc := ⟨.hbm, 150, rfl⟩
abbrev main_c_33 : Ref sig .tc := ⟨.hbm, 151, rfl⟩
abbrev main_call5_v0 : Ref sig .tc := ⟨.hbm, 152, rfl⟩
abbrev main_call5_v1 : Ref sig .tc := ⟨.hbm, 153, rfl⟩
abbrev main_v92 : Ref sig .tc := ⟨.hbm, 154, rfl⟩
abbrev main_c_34 : Ref sig .tc := ⟨.hbm, 155, rfl⟩
abbrev main_v93 : Ref sig .tc := ⟨.hbm, 156, rfl⟩
abbrev main_v94 : Ref sig .tc := ⟨.hbm, 157, rfl⟩
abbrev main_c_35 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_36 : Ref sig .tc := ⟨.hbm, 164, rfl⟩
abbrev main_v100 : Ref sig .tc := ⟨.hbm, 165, rfl⟩
abbrev main_cst_37 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_cst_38 : Ref sig .tc := ⟨.hbm, 170, rfl⟩
abbrev main_v104 : Ref sig .tc := ⟨.hbm, 171, rfl⟩
abbrev main_v105 : Ref sig .tc := ⟨.hbm, 172, rfl⟩
abbrev main_cst_39 : Ref sig .tc := ⟨.hbm, 173, rfl⟩
abbrev main_v106 : Ref sig .tc := ⟨.hbm, 174, rfl⟩
abbrev main_v107 : Ref sig .tc := ⟨.hbm, 175, rfl⟩
abbrev main_cst_40 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_cst_41 : Ref sig .tc := ⟨.hbm, 180, rfl⟩
abbrev main_v111 : Ref sig .tc := ⟨.hbm, 181, rfl⟩
abbrev main_cst_42 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_43 : Ref sig .tc := ⟨.hbm, 186, rfl⟩
abbrev main_v115 : Ref sig .tc := ⟨.hbm, 187, rfl⟩
abbrev main_v116 : Ref sig .tc := ⟨.hbm, 188, rfl⟩

abbrev nD : Nat := 1
abbrev τ : Topo := Topo.v7x

variable {F : FTy → Type} [FloatOps F]
-- ==== Proof.Tile.lean ====
/- One trip of the kernel's loop, as 64 tiles of eight rows, each adding one term to each of the
   seven carried vectors. -/
module

public import proofs.«01_k».proof.Proof.Gen.KernelIdeal.Loops

@[expose] public section

set_option maxRecDepth 16384

noncomputable section

namespace Cert.KernelIdeal.Tile

open Idealize.ShloMosaic Idealize.ShloMosaic.TcCoe
open Idealize.SL.Sem
open Cert.KernelIdeal Cert.KernelIdeal.Gen

variable {F : FTy → Type} [FloatOps F] [Named F]

/-- Eight rows of the thousand lanes. -/
abbrev T8 (F : FTy → Type) : Type := FVec F S8x1000 .f32

/-- The vector holding one number everywhere. -/
def vc (b : BitVec 32) : T8 F := broadcast S8x1000 (Scalar.ofBits .f32 b : F .f32)

/-- `e⁻ˡˣˡ` of each element. -/
def vE (x : T8 F) : T8 F := exp (subf (vc 0x00000000#32) (absf x))

/-- `1 + e⁻ˡˣˡ`. -/
def vO (x : T8 F) : T8 F := addf (vc 0x3F800000#32) (vE x)

/-- The cross entropy of each element, unweighted. -/
def vRaw (x t : T8 F) : T8 F :=
  addf (subf (maximumf x (vc 0x00000000#32)) (mulf x t)) (log (vO x))

/-- `1 / (1 + e⁻ˡˣˡ)`. -/
def vR (x : T8 F) : T8 F := divf (vc 0x3F800000#32) (vO x)

/-- How far the predicted probability lies from the target. -/
def vD (x t : T8 F) : T8 F :=
  absf (subf (select (cmpf .oge x (vc 0x00000000#32)) (vR x) (mulf (vE x) (vR x))) t)

/-- Where a vector is at least a threshold. -/
def ge (v : T8 F) (s : F .f32) : IVec S8x1000 1 := cmpf .oge v (broadcast S8x1000 s)

/-- What a packed counter gains: 0, 1, or 4097, by two nested thresholds. -/
def vPair (a b : IVec S8x1000 1) : T8 F :=
  select a (select b (vc 0x45800800#32) (vc 0x3F800000#32)) (vc 0x00000000#32)

/-- A row of weights repeated over eight rows. -/
def row8 (r : FVec F S1x1000 .f32) : T8 F :=
  broadcastTo S8x1000 (shapeCast S1x1000 r shapeCasts_S1x1000_S1x1000) broadcasts_S1x1000_S8x1000

/-- The label's weight: one of three rows by the target's third. -/
def vCw (r0 r1 r2 : FVec F S1x1000 .f32) (t : T8 F) : T8 F :=
  select (ge t (Named.named κ "third1" 0x3EAAAAAB#32))
    (select (ge t (Named.named κ "third2" 0x3F2AAAAB#32)) (row8 r2) (row8 r1)) (row8 r0)

/-- The gradient's weight: one of ten numbers by the distance's tenth, found by a tree of
   comparisons. -/
def vGw (g0 g1 g2 g3 g4 g5 g6 g7 g8 g9 : F .f32) (d : T8 F) : T8 F :=
  select (ge d (Scalar.ofBits .f32 0x3F000000#32))
    (select (ge d (Named.named κ "tenth7" 0x3F333333#32))
      (select (ge d (Named.named κ "tenth8" 0x3F4CCCCD#32))
        (select (ge d (Named.named κ "tenth9" 0x3F666666#32)) (broadcast S8x1000 g9)
          (broadcast S8x1000 g8))
        (broadcast S8x1000 g7))
      (select (ge d (Named.named κ "tenth6" 0x3F19999A#32)) (broadcast S8x1000 g6)
        (broadcast S8x1000 g5)))
    (select (ge d (Named.named κ "tenth2" 0x3E4CCCCD#32))
      (select (ge d (Named.named κ "tenth3" 0x3E99999A#32))
        (select (ge d (Named.named κ "tenth4" 0x3ECCCCCD#32)) (broadcast S8x1000 g4)
          (broadcast S8x1000 g3))
        (broadcast S8x1000 g2))
      (select (ge d (Named.named κ "tenth1" 0x3DCCCCCD#32)) (broadcast S8x1000 g1)
        (broadcast S8x1000 g0)))

/-- The pair counter of the first and second tenths. -/
def gaOf (d : T8 F) : T8 F :=
  vPair (ge d (Named.named κ "tenth1" 0x3DCCCCCD#32)) (ge d (Named.named κ "tenth2" 0x3E4CCCCD#32))

/-- The pair counter of the third and fourth tenths. -/
def gbOf (d : T8 F) : T8 F :=
  vPair (ge d (Named.named κ "tenth3" 0x3E99999A#32)) (ge d (Named.named κ "tenth4" 0x3ECCCCCD#32))

/-- The pair counter of the fifth and sixth tenths. -/
def gcOf (d : T8 F) : T8 F :=
  vPair (ge d (Scalar.ofBits .f32 0x3F000000#32)) (ge d (Named.named κ "tenth6" 0x3F19999A#32))

/-- The pair counter of the seventh and eighth tenths. -/
def gdOf (d : T8 F) : T8 F :=
  vPair (ge d (Named.named κ "tenth7" 0x3F333333#32)) (ge d (Named.named κ "tenth8" 0x3F4CCCCD#32))

/-- The counter of the ninth tenth, alone. -/
def geOf (d : T8 F) : T8 F :=
  select (ge d (Named.named κ "tenth9" 0x3F666666#32)) (vc 0x3F800000#32) (vc 0x00000000#32)

/-- The pair counter of the targets' thirds. -/
def tpOf (t : T8 F) : T8 F :=
  vPair (ge t (Named.named κ "third1" 0x3EAAAAAB#32)) (ge t (Named.named κ "third2" 0x3F2AAAAB#32))

/-- The weighted cross entropy of each element. -/
def lossOf (r0 r1 r2 : FVec F S1x1000 .f32) (g0 g1 g2 g3 g4 g5 g6 g7 g8 g9 : F .f32)
    (x t : T8 F) : T8 F :=
  mulf (vRaw x t) (mulf (vGw g0 g1 g2 g3 g4 g5 g6 g7 g8 g9 (vD x t)) (vCw r0 r1 r2 t))

/-- A vector plus the first `n` of 64 terms, added one after the other. -/
def sumTo (z : T8 F) (f : Fin 64 → T8 F) : (n : ℕ) → n ≤ 64 → T8 F
  | 0, _ => z
  | n + 1, h => addf (sumTo z f n (Nat.le_of_succ_le h)) (f ⟨n, h⟩)

/-- The `j`-th tile of trip `k`: rows `512 k + 8 j` to `512 k + 8 j + 7` of a step's block. -/
def tileOf (M : Memref sig .tc .vmem S2048x1000 .f32) (X : BufTy.Contents (Elt F) M.view.ty)
    (k : Fin k0_t1_loop.trips) (j : Fin 64) : T8 F :=
  View.readAt (Elt F) M.view
    (Rect.unit (s := S2048x1000) (k0_off1 k (BitVec.ofNat 32 (8 * j.val))) S8x1000.size
      (k0_off1_inb k j)).toLoadRect X

section
variable (𝒱 : Variants) (c : Dev nD) (bd : Option 𝒱.V) (i : grid0.Coords)
  (arg1 : Memref sig .tc .smem S10 .f32) (harg1 : arg1.IsWhole)
  (arg2 : Memref sig .tc .vmem S2048x1000 .f32) (harg2 : arg2.IsWhole)
  (arg3 : Memref sig .tc .vmem S2048x1000 .f32) (harg3 : arg3.IsWhole)
  (arg4 : Memref sig .tc .vmem S3x1000 .f32) (harg4 : arg4.IsWhole)
  (arg5 : Memref sig .tc .vmem S10x1 .f32) (harg5 : arg5.IsWhole)
  (arg6 : Memref sig .tc .vmem S1x1 .f32) (harg6 : arg6.IsWhole)
  (arg7 : Memref sig .tc .vmem S10x1 .f32) (harg7 : arg7.IsWhole)
  (arg8 : Memref sig .tc .vmem S3x1000 .f32) (harg8 : arg8.IsWhole)
  (arg9 : Memref sig .tc .vmem S1x1000 .f32) (harg9 : arg9.IsWhole)
  (arg10 : Memref sig .tc .vmem S9x1000 .f32) (harg10 : arg10.IsWhole)
  (arg11 : Memref sig .tc .vmem S2x1000 .f32) (harg11 : arg11.IsWhole)
  (v10 v11 v12 : FVec F S1x1000 .f32) (v16 v20 v24 v28 v32 v34 : F .f32)
  (v37 v41 v45 v49 : Elt F .f32)
  (X2 : BufTy.Contents (Elt F) arg2.view.ty) (X3 : BufTy.Contents (Elt F) arg3.view.ty)
  (k : Fin k0_t1_loop.trips)
  (acc : T8 F × T8 F × T8 F × T8 F × T8 F × T8 F × T8 F)

/-- A trip's result: each carried vector plus its 64 tiles' terms. -/
theorem trip_eq : tripR_k0_t1 (F := F) 𝒱 c bd i arg1 harg1 arg2 harg2 arg3 harg3 arg4 harg4 arg5 harg5
      arg6 harg6 arg7 harg7 arg8 harg8 arg9 harg9 arg10 harg10 arg11 harg11 v10 v11 v12 v16 v20 v24
      v28 v32 v34 v37 v41 v45 v49 X2 X3 k acc
    = (sumTo acc.1 (fun j => lossOf v10 v11 v12 v16 v20 v24 v28 v32 (k0_pay1676 v34) (k0_pay1677 v37)
          (k0_pay1678 v41) (k0_pay1679 v45) (k0_pay1680 v49) (tileOf arg2 X2 k j) (tileOf arg3 X3 k j)) 64 le_rfl,
      sumTo acc.2.1 (fun j => gaOf (vD (tileOf arg2 X2 k j) (tileOf arg3 X3 k j))) 64 le_rfl,
      sumTo acc.2.2.1 (fun j => gbOf (vD (tileOf arg2 X2 k j) (tileOf arg3 X3 k j))) 64 le_rfl,
      sumTo acc.2.2.2.1 (fun j => gcOf (vD (tileOf arg2 X2 k j) (tileOf arg3 X3 k j))) 64 le_rfl,
      sumTo acc.2.2.2.2.1 (fun j => gdOf (vD (tileOf arg2 X2 k j) (tileOf arg3 X3 k j))) 64 le_rfl,
      sumTo acc.2.2.2.2.2.1 (fun j => geOf (vD (tileOf arg2 X2 k j) (tileOf arg3 X3 k j))) 64 le_rfl,
      sumTo acc.2.2.2.2.2.2 (fun j => tpOf (tileOf arg3 X3 k j)) 64 le_rfl) := by
  unfold tripR_k0_t1 trip_k0_t1
  refine Prod.ext ?_ (Prod.ext ?_ (Prod.ext ?_ (Prod.ext ?_ (Prod.ext ?_ (Prod.ext ?_ ?_)))))
  · rfl
  · rfl
  · rfl
  · rfl
  · rfl
  · rfl
  · rfl

end

end Cert.KernelIdeal.Tile

end
-- ==== Proof.Scalar.lean ====
/- What one element contributes: the kernel's elementwise text over the extended reals. -/
module

public import proofs.«01_k».proof.Proof.Tile
public import Idealize.ShloMosaic.Lib.IdealHost
public import Idealize.ShloMosaic.Lib.ValueIdx
public import Idealize.ShloMosaic.Lib.ValueLayout

@[expose] public section

set_option maxRecDepth 16384

noncomputable section

namespace Cert.KernelIdeal.Tile

open Idealize.ShloMosaic Idealize.ShloMosaic.TcCoe Idealize.ShloMosaic.ValueIdx
open Cert.KernelIdeal Cert.KernelIdeal.Gen

/-- `n` tenths. -/
def tenth (n : ℕ) : EReal := (((n : ℝ) / 10 : ℝ) : EReal)

/-- `n` thirds. -/
def third (n : ℕ) : EReal := (((n : ℝ) / 3 : ℝ) : EReal)

/-- `e⁻ˡˣˡ`. -/
def eS (x : EReal) : EReal := Ideal.exp (-(max x (-x)))

/-- The cross entropy of a logit and its target. -/
def rawS (x t : EReal) : EReal := max x 0 - x * t + Ideal.log (1 + eS x)

/-- The predicted probability, computed without overflow. -/
def pS (x : EReal) : EReal :=
  if 0 ≤ x then Ideal.div 1 (1 + eS x) else eS x * Ideal.div 1 (1 + eS x)

/-- How far the predicted probability lies from the target. -/
def dS (x t : EReal) : EReal := max (pS x - t) (-(pS x - t))

/-- The label's weight among three. -/
def cwS (w : Fin 3 → EReal) (t : EReal) : EReal :=
  if third 1 ≤ t then (if third 2 ≤ t then w 2 else w 1) else w 0

/-- The gradient's weight among ten, by a tree of comparisons. -/
def gwS (g : Fin 10 → EReal) (d : EReal) : EReal :=
  if tenth 5 ≤ d then
    (if tenth 7 ≤ d then
      (if tenth 8 ≤ d then (if tenth 9 ≤ d then g 9 else g 8) else g 7)
    else (if tenth 6 ≤ d then g 6 else g 5))
  else
    (if tenth 2 ≤ d then
      (if tenth 3 ≤ d then (if tenth 4 ≤ d then g 4 else g 3) else g 2)
    else (if tenth 1 ≤ d then g 1 else g 0))

/-- What a packed counter gains at `d` by two thresholds. -/
def pairS (a b d : EReal) : EReal := if a ≤ d then (if b ≤ d then ((4097 : ℝ) : EReal) else 1) else 0

/-- What a plain counter gains. -/
def oneS (a d : EReal) : EReal := if a ≤ d then 1 else 0

theorem ofBits_half : Ideal.ofBits .f32 0x3F000000#32 = tenth 5 := by
  have h : Ideal.ofBits .f32 0x3F000000#32 = ((1 / 2 : ℝ) : EReal) := by
    simp [Ideal.ofBits, Ideal.ieee, -EReal.coe_mul]; norm_num
  rw [h, tenth]; norm_num

theorem ofBits_4097 : Ideal.ofBits .f32 0x45800800#32 = ((4097 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_inv4096 : Ideal.ofBits .f32 0x39800000#32 = ((1 / 4096 : ℝ) : EReal) := by
  simp [Ideal.ofBits, Ideal.ieee, -EReal.coe_mul]; norm_num

/-- A named constant is the number its name stands for. -/
theorem named_of (name : String) (b : BitVec 32) {u v : EReal} (h : κ name = some u) (huv : u = v) :
    (Named.named κ name b : Ideal .f32) = v := by
  show ((κ name).getD _ : EReal) = v
  rw [h, ← huv]; rfl

theorem named_tenth1 (b : BitVec 32) : (Named.named κ "tenth1" b : Ideal .f32) = tenth 1 :=
  named_of _ b rfl (by norm_num [tenth])

theorem named_tenth2 (b : BitVec 32) : (Named.named κ "tenth2" b : Ideal .f32) = tenth 2 :=
  named_of _ b rfl (by norm_num [tenth])

theorem named_tenth3 (b : BitVec 32) : (Named.named κ "tenth3" b : Ideal .f32) = tenth 3 :=
  named_of _ b rfl (by norm_num [tenth])

theorem named_tenth4 (b : BitVec 32) : (Named.named κ "tenth4" b : Ideal .f32) = tenth 4 :=
  named_of _ b rfl (by norm_num [tenth])

theorem named_tenth6 (b : BitVec 32) : (Named.named κ "tenth6" b : Ideal .f32) = tenth 6 :=
  named_of _ b rfl (by norm_num [tenth])

theorem named_tenth7 (b : BitVec 32) : (Named.named κ "tenth7" b : Ideal .f32) = tenth 7 :=
  named_of _ b rfl (by norm_num [tenth])

theorem named_tenth8 (b : BitVec 32) : (Named.named κ "tenth8" b : Ideal .f32) = tenth 8 :=
  named_of _ b rfl (by norm_num [tenth])

theorem named_tenth9 (b : BitVec 32) : (Named.named κ "tenth9" b : Ideal .f32) = tenth 9 :=
  named_of _ b rfl (by norm_num [tenth])

theorem named_third1 (b : BitVec 32) : (Named.named κ "third1" b : Ideal .f32) = third 1 :=
  named_of _ b rfl (by norm_num [third])

theorem named_third2 (b : BitVec 32) : (Named.named κ "third2" b : Ideal .f32) = third 2 :=
  named_of _ b rfl (by norm_num [third])

variable (x t d : T8 Ideal) (i : S8x1000.Idx)

theorem vc_apply (b : BitVec 32) : (vc b : T8 Ideal) i = Ideal.ofBits .f32 b := rfl

theorem sel_ge (v : T8 Ideal) (s : Ideal .f32) (a b : T8 Ideal) :
    select (ge v s) a b i = if s ≤ v i then a i else b i := by
  show (if Ideal.cmp .oge (v i) s = 1 then a i else b i) = _
  by_cases h : s ≤ v i
  · simp [Ideal.cmp, h]
  · simp [Ideal.cmp, h]

theorem vE_apply : vE x i = eS (x i) := by
  show Ideal.exp (Ideal.ofBits .f32 0x00000000#32 - max (x i) (-(x i))) = _
  rw [Ideal.ofBits_zero_f32, zero_sub]; rfl

theorem vO_apply : vO x i = 1 + eS (x i) := by
  show Ideal.ofBits .f32 0x3F800000#32 + vE x i = _
  rw [vE_apply, Ideal.ofBits_one_f32]

theorem vRaw_apply : vRaw x t i = rawS (x i) (t i) := by
  show max (x i) (Ideal.ofBits .f32 0x00000000#32) - x i * t i + Ideal.log (vO x i) = _
  rw [vO_apply, Ideal.ofBits_zero_f32]; rfl

theorem vR_apply : vR x i = Ideal.div 1 (1 + eS (x i)) := by
  show Ideal.div (Ideal.ofBits .f32 0x3F800000#32) (vO x i) = _
  rw [vO_apply, Ideal.ofBits_one_f32]

theorem vD_apply : vD x t i = dS (x i) (t i) := by
  have h : select (cmpf .oge x (vc 0x00000000#32)) (vR x) (mulf (vE x) (vR x)) i = pS (x i) := by
    refine (sel_ge i x (Ideal.ofBits .f32 0x00000000#32) _ _).trans ?_
    show (if _ then vR x i else vE x i * vR x i) = _
    rw [vR_apply, vE_apply, Ideal.ofBits_zero_f32]; rfl
  show max (select (cmpf .oge x (vc 0x00000000#32)) (vR x) (mulf (vE x) (vR x)) i - t i) (-(_ - t i)) = _
  rw [h]; rfl

theorem vPair_apply (a b : Ideal .f32) : (vPair (ge d a) (ge d b) : T8 Ideal) i = pairS a b (d i) := by
  rw [vPair, sel_ge, sel_ge, vc_apply, vc_apply, vc_apply, ofBits_4097, Ideal.ofBits_one_f32,
    Ideal.ofBits_zero_f32, pairS]

theorem gaOf_apply : gaOf d i = pairS (tenth 1) (tenth 2) (d i) := by
  rw [gaOf, vPair_apply, named_tenth1, named_tenth2]

theorem gbOf_apply : gbOf d i = pairS (tenth 3) (tenth 4) (d i) := by
  rw [gbOf, vPair_apply, named_tenth3, named_tenth4]

theorem gcOf_apply : gcOf d i = pairS (tenth 5) (tenth 6) (d i) := by
  rw [gcOf, vPair_apply, named_tenth6]
  exact congrArg (fun a => pairS a _ _) ofBits_half

theorem gdOf_apply : gdOf d i = pairS (tenth 7) (tenth 8) (d i) := by
  rw [gdOf, vPair_apply, named_tenth7, named_tenth8]

theorem geOf_apply : geOf d i = oneS (tenth 9) (d i) := by
  rw [geOf, sel_ge, vc_apply, vc_apply, named_tenth9, Ideal.ofBits_one_f32, Ideal.ofBits_zero_f32,
    oneS]

theorem tpOf_apply : tpOf t i = pairS (third 1) (third 2) (t i) := by
  rw [tpOf, vPair_apply, named_third1, named_third2]

theorem row8_apply (r : FVec Ideal S1x1000 .f32) (i : S8x1000.Idx) : row8 r i = r (ix2 0 (i 1)) := by
  obtain ⟨a, b, rfl⟩ : ∃ a b, i = ix2 a b := ⟨i 0, i 1, eq_ix2 i⟩
  rw [row8, shapeCast_self]
  exact broadcastTo_1b_ab_apply r _ a b

/-- The weighted cross entropy of each element. -/
theorem lossOf_apply (r0 r1 r2 : FVec Ideal S1x1000 .f32) (g0 g1 g2 g3 g4 g5 g6 g7 g8 g9 : Ideal .f32) :
    lossOf r0 r1 r2 g0 g1 g2 g3 g4 g5 g6 g7 g8 g9 x t i
      = rawS (x i) (t i) * (gwS ![g0, g1, g2, g3, g4, g5, g6, g7, g8, g9] (dS (x i) (t i))
          * cwS ![r0 (ix2 0 (i 1)), r1 (ix2 0 (i 1)), r2 (ix2 0 (i 1))] (t i)) := by
  have h5 : (Scalar.ofBits .f32 0x3F000000#32 : Ideal .f32) = tenth 5 := ofBits_half
  have hg : vGw g0 g1 g2 g3 g4 g5 g6 g7 g8 g9 (vD x t) i
      = gwS ![g0, g1, g2, g3, g4, g5, g6, g7, g8, g9] (dS (x i) (t i)) := by
    rw [vGw, h5, named_tenth1, named_tenth2, named_tenth3, named_tenth4, named_tenth6, named_tenth7,
      named_tenth8, named_tenth9]
    simp only [sel_ge, vD_apply]
    rfl
  have hc : vCw r0 r1 r2 t i = cwS ![r0 (ix2 0 (i 1)), r1 (ix2 0 (i 1)), r2 (ix2 0 (i 1))] (t i) := by
    rw [vCw, named_third1, named_third2]
    simp only [sel_ge, row8_apply]
    rfl
  show vRaw x t i * (vGw g0 g1 g2 g3 g4 g5 g6 g7 g8 g9 (vD x t) i * vCw r0 r1 r2 t i) = _
  rw [hg, hc, vRaw_apply]

end Cert.KernelIdeal.Tile

end
-- ==== Proof.Sums.lean ====
/- Sums over rows split into blocks, and two counters read out of one packed number. -/
module

public import proofs.«01_k».proof.Proof.Scalar
public import Mathlib.Algebra.BigOperators.Fin

@[expose] public section

set_option maxRecDepth 16384

noncomputable section

namespace Cert.KernelIdeal.Tile

open Idealize.ShloMosaic Idealize.ShloMosaic.TcCoe Idealize.ShloMosaic.ValueIdx
open Cert.KernelIdeal Cert.KernelIdeal.Gen

/-- A sum over `m * n` positions, as `m` blocks of `n`. -/
theorem sum_split {M : Type} [AddCommMonoid M] (m n : ℕ) (g : Fin (m * n) → M) :
    ∑ r, g r = ∑ a : Fin m, ∑ b : Fin n, g (finProdFinEquiv (a, b)) := by
  rw [← finProdFinEquiv.sum_comp g, Fintype.sum_prod_type]

/-- The row of a step's block that sublane `s` of tile `j` of trip `k` holds. -/
def rowOf (k : Fin 4) (j : Fin 64) (s : Fin 8) : Fin 2048 := ⟨512 * k.val + 8 * j.val + s.val, by omega⟩

/-- Sublanes, trips and tiles together run over the block's rows. -/
theorem sum_rows {M : Type} [AddCommMonoid M] (g : Fin 2048 → M) :
    ∑ s : Fin 8, ∑ k : Fin 4, ∑ j : Fin 64, g (rowOf k j s) = ∑ r, g r := by
  have h1 := sum_split 4 512 g
  have h2 : ∀ k : Fin 4, ∑ b : Fin 512, g (finProdFinEquiv (k, b))
      = ∑ j : Fin 64, ∑ s : Fin 8, g (rowOf k j s) := fun k => by
    rw [sum_split 64 8 fun b : Fin 512 => g (finProdFinEquiv (k, b))]
    refine Finset.sum_congr rfl fun j _ => Finset.sum_congr rfl fun s _ => congrArg g (Fin.ext ?_)
    simp only [rowOf, finProdFinEquiv_apply_val]
    omega
  rw [h1, Finset.sum_comm]
  refine Finset.sum_congr rfl fun k _ => ?_
  rw [h2, Finset.sum_comm]

/-- A running state that starts at zero and gains 64 terms a trip holds all the terms. -/
theorem state_apply (S : ℕ → T8 Ideal) (f : Fin 4 → Fin 64 → T8 Ideal) (i : S8x1000.Idx) (h0 : S 0 i = 0)
    (hs : ∀ k : Fin 4, S (k.val + 1) = sumTo (S k.val) (f k) 64 le_rfl) :
    S 4 i = ∑ k : Fin 4, ∑ j : Fin 64, f k j i := by
  have hsum : ∀ (z : T8 Ideal) (g : Fin 64 → T8 Ideal) (n : ℕ) (hn : n ≤ 64),
      sumTo z g n hn i = z i + ∑ j : Fin n, g ⟨j.val, by omega⟩ i := fun z g n => by
    induction n with
    | zero => intro _; simp [sumTo]
    | succ n ih =>
      intro hn
      show sumTo z g n _ i + g ⟨n, _⟩ i = _
      rw [ih, Fin.sum_univ_castSucc, add_assoc]
      rfl
  have h4 := fun k : Fin 4 => (congrFun (hs k) i).trans (hsum (S k.val) (f k) 64 le_rfl)
  have a0 := h4 0
  have a1 := h4 1
  have a2 := h4 2
  have a3 := h4 3
  rw [Fin.sum_univ_four]
  refine a3.trans ?_
  refine (congrArg (· + _) (a2.trans (congrArg (· + _) (a1.trans (congrArg (· + _) (a0.trans (congrArg (· + _) h0))))))).trans ?_
  rw [zero_add]

/-- A sum of reals, read as extended reals. -/
theorem coe_sum {ι : Type} (s : Finset ι) (f : ι → ℝ) : ((∑ r ∈ s, f r : ℝ) : EReal) = ∑ r ∈ s, (f r : EReal) :=
  map_sum (⟨⟨fun x : ℝ => (x : EReal), EReal.coe_zero⟩, EReal.coe_add⟩ : ℝ →+ EReal) f s

variable {n : ℕ}

/-- A count of rows is a natural number, at most the number of rows. -/
theorem sum_oneS (a : EReal) (d : Fin n → EReal) :
    ∃ c : ℕ, c ≤ n ∧ ∑ r, oneS a (d r) = ((c : ℝ) : EReal) := by
  classical
  refine ⟨(Finset.univ.filter fun r => a ≤ d r).card,
    (Finset.card_le_univ _).trans_eq (Fintype.card_fin n), ?_⟩
  simp only [oneS]
  rw [Finset.sum_boole]
  rfl

/-- The packed total is the first count plus 4096 times the second. -/
theorem sum_pairS {a b : EReal} (hab : a ≤ b) (d : Fin n → EReal) {c e : ℕ}
    (hc : ∑ r, oneS a (d r) = ((c : ℝ) : EReal)) (he : ∑ r, oneS b (d r) = ((e : ℝ) : EReal)) :
    ∑ r, pairS a b (d r) = (((c : ℝ) + 4096 * (e : ℝ) : ℝ) : EReal) := by
  have h : ∀ x, pairS a b x = oneS a x + ((4096 : ℝ) : EReal) * oneS b x := fun x => by
    unfold pairS oneS
    by_cases hb : b ≤ x
    · simp only [if_pos (hab.trans hb), if_pos hb, mul_one]
      rw [show (1 : EReal) = ((1 : ℝ) : EReal) from rfl, ← EReal.coe_add]
      norm_num
    · simp [hb]
  rw [Finset.sum_congr rfl fun r _ => h (d r), Finset.sum_add_distrib, hc]
  have hm : ∑ r, ((4096 : ℝ) : EReal) * oneS b (d r) = ((4096 : ℝ) : EReal) * ∑ r, oneS b (d r) := by
    have hr : ∀ x, oneS b x = (((if b ≤ x then 1 else 0 : ℝ)) : EReal) := fun x => by
      unfold oneS; split <;> rfl
    simp only [hr, ← EReal.coe_mul, ← coe_sum, Finset.mul_sum]
  rw [hm, he, ← EReal.coe_mul, ← EReal.coe_add]

/-- The whole part of the total over 4096 is the second count. -/
theorem unpack_hi {a b : EReal} (hab : a ≤ b) (hn : n < 4096) (d : Fin n → EReal) :
    Ideal.liftRound Int.floor ((∑ r, pairS a b (d r)) * ((1 / 4096 : ℝ) : EReal)) = ∑ r, oneS b (d r) := by
  obtain ⟨c, hcn, hc⟩ := sum_oneS a d
  obtain ⟨e, -, he⟩ := sum_oneS b d
  rw [sum_pairS hab d hc he, he, ← EReal.coe_mul]
  have hf : ⌊((c : ℝ) + 4096 * (e : ℝ)) * (1 / 4096)⌋ = (e : ℤ) := by
    have : (c : ℝ) < 4096 := by exact_mod_cast lt_of_le_of_lt hcn hn
    rw [Int.floor_eq_iff]
    constructor
    · push_cast; have : (0 : ℝ) ≤ c := Nat.cast_nonneg c; linarith
    · push_cast; linarith
  show (((⌊_⌋ : ℤ) : ℝ) : EReal) = _
  rw [hf]; norm_cast

/-- What remains of the total is the first count. -/
theorem unpack_lo {a b : EReal} (hab : a ≤ b) (d : Fin n → EReal) :
    (∑ r, pairS a b (d r)) - (∑ r, oneS b (d r)) * ((4096 : ℝ) : EReal) = ∑ r, oneS a (d r) := by
  obtain ⟨c, -, hc⟩ := sum_oneS a d
  obtain ⟨e, -, he⟩ := sum_oneS b d
  rw [sum_pairS hab d hc he, he, hc, ← EReal.coe_mul, ← EReal.coe_sub]
  congr 1; ring

end Cert.KernelIdeal.Tile

end
-- ==== Proof.Loop.lean ====
/- The loop's result: each carried vector, summed over its eight sublanes, is a sum over the rows of
   the step's block. -/
module

public import proofs.«01_k».proof.Proof.Sums
public import Idealize.ShloMosaic.Lib.Pipeline.Frame

@[expose] public section

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen

theorem trips_eq : k0_t1_loop.trips = 4 := by decide +kernel

/-- Where tile `j` of trip `k` starts. -/
theorem off_eq : ∀ (k : Fin k0_t1_loop.trips) (j : Fin 64),
    k0_off1 k (BitVec.ofNat 32 (8 * j.val)) = ![512 * k.val + 8 * j.val, 0] := by decide +kernel

/-- A trip's number, as one of four. -/
def tr (k : Fin 4) : Fin k0_t1_loop.trips := ⟨k.val, by rw [trips_eq]; exact k.isLt⟩

/-- A tile's element is the block's element in its row. -/
theorem tileOf_apply (M : Memref sig .tc .vmem S2048x1000 .f32) (h : M.IsWhole)
    (x : Vec Ideal S2048x1000 .f32) (k : Fin 4) (j : Fin 64) (s : Fin 8) (l : Fin 1000) :
    tileOf M (h.unread x) (tr k) j (ix2 s l) = x (ix2 (rowOf k j s) l) := by
  show M.view.read (Elt Ideal) (h.unread x) _ = _
  rw [h.read_unread]
  refine congrArg x ((eq_ix2 _).trans (congrArg₂ ix2 (Fin.ext ?_) (Fin.ext ?_)))
  · show k0_off1 (tr k) (BitVec.ofNat 32 (8 * j.val)) 0 + 1 * s.val = _
    rw [off_eq]
    show 512 * k.val + 8 * j.val + 1 * s.val = 512 * k.val + 8 * j.val + s.val
    omega
  · show k0_off1 (tr k) (BitVec.ofNat 32 (8 * j.val)) 1 + 1 * l.val = _
    rw [off_eq]
    show 0 + 1 * l.val = l.val
    omega

/-- A function of a logit and its target, summed down lane `l` of a block. -/
def colSum (f : EReal → EReal → EReal) (x t : Vec Ideal S2048x1000 .f32) (l : Fin 1000) : EReal :=
  ∑ r : Fin 2048, f (x (ix2 r l)) (t (ix2 r l))

/-- One carried vector of the loop, summed over sublanes. -/
theorem carried (S : ℕ → T8 Ideal) (g : T8 Ideal → T8 Ideal → T8 Ideal) (f : Fin 1000 → EReal → EReal → EReal)
    (M2 M3 : Memref sig .tc .vmem S2048x1000 .f32) (h2 : M2.IsWhole) (h3 : M3.IsWhole)
    (x t : Vec Ideal S2048x1000 .f32) (hg : ∀ a b s l, g a b (ix2 s l) = f l (a (ix2 s l)) (b (ix2 s l)))
    (h0 : S 0 = k0_pay1681)
    (hs : ∀ k : Fin 4, S (k.val + 1)
      = sumTo (S k.val) (fun j => g (tileOf M2 (h2.unread x) (tr k) j) (tileOf M3 (h3.unread t) (tr k) j)) 64 le_rfl)
    (l : Fin 1000) :
    ∑ s : Fin 8, S 4 (ix2 s l) = colSum (f l) x t l := by
  rw [colSum, ← sum_rows fun r => f l (x (ix2 r l)) (t (ix2 r l))]
  refine Finset.sum_congr rfl fun s _ => ?_
  rw [state_apply S _ (ix2 s l) (by rw [h0]; exact Ideal.ofBits_zero_f32) hs]
  refine Finset.sum_congr rfl fun k _ => Finset.sum_congr rfl fun j _ => ?_
  rw [hg, tileOf_apply, tileOf_apply]

section
variable (𝒱 : Variants) (c : Dev nD) (bd : Option 𝒱.V) (i : grid0.Coords)
  (arg1 : Memref sig .tc .smem S10 .f32) (harg1 : arg1.IsWhole)
  (arg2 : Memref sig .tc .vmem S2048x1000 .f32) (harg2 : arg2.IsWhole)
  (arg3 : Memref sig .tc .vmem S2048x1000 .f32) (harg3 : arg3.IsWhole)
  (arg4 : Memref sig .tc .vmem S3x1000 .f32) (harg4 : arg4.IsWhole)
  (arg5 : Memref sig .tc .vmem S10x1 .f32) (harg5 : arg5.IsWhole)
  (arg6 : Memref sig .tc .vmem S1x1 .f32) (harg6 : arg6.IsWhole)
  (arg7 : Memref sig .tc .vmem S10x1 .f32) (harg7 : arg7.IsWhole)
  (arg8 : Memref sig .tc .vmem S3x1000 .f32) (harg8 : arg8.IsWhole)
  (arg9 : Memref sig .tc .vmem S1x1000 .f32) (harg9 : arg9.IsWhole)
  (arg10 : Memref sig .tc .vmem S9x1000 .f32) (harg10 : arg10.IsWhole)
  (arg11 : Memref sig .tc .vmem S2x1000 .f32) (harg11 : arg11.IsWhole)
  (v10 v11 v12 : FVec Ideal S1x1000 .f32) (v16 v20 v24 v28 v32 v34 : Ideal .f32)
  (v37 v41 v45 v49 : Elt Ideal .f32) (x t : Vec Ideal S2048x1000 .f32)

/-- What the loop carries out, from zero. -/
abbrev loopOut : T8 Ideal × T8 Ideal × T8 Ideal × T8 Ideal × T8 Ideal × T8 Ideal × T8 Ideal :=
  st_k0_t1 𝒱 c bd i arg1 harg1 arg2 harg2 arg3 harg3 arg4 harg4 arg5 harg5 arg6 harg6 arg7 harg7 arg8
      harg8 arg9 harg9 arg10 harg10 arg11 harg11
    v10 v11 v12 v16 v20 v24 v28 v32 v34 v37 v41 v45 v49 (harg2.unread x) (harg3.unread t)
    (k0_pay1681, k0_pay1681, k0_pay1681, k0_pay1681, k0_pay1681, k0_pay1681, k0_pay1681)
    (Scf.trips k0_t1_loop.lb k0_t1_loop.ub k0_t1_loop.st)

/-- The gradient weights the loop is given. -/
abbrev gvec : Fin 10 → EReal := ![v16, v20, v24, v28, v32, k0_pay1676 v34, k0_pay1677 v37,
  k0_pay1678 v41, k0_pay1679 v45, k0_pay1680 v49]

/-- The seven carried vectors, summed over sublanes. -/
theorem loopOut_sum (l : Fin 1000)
    (L : T8 Ideal × T8 Ideal × T8 Ideal × T8 Ideal × T8 Ideal × T8 Ideal × T8 Ideal)
    (hL : L = loopOut 𝒱 c bd i arg1 harg1 arg2 harg2 arg3 harg3 arg4 harg4 arg5 harg5 arg6 harg6 arg7 harg7 arg8
      harg8 arg9 harg9 arg10 harg10 arg11 harg11
        v10 v11 v12 v16 v20 v24 v28 v32 v34 v37 v41 v45 v49 x t) :
    ∑ s : Fin 8, L.1 (ix2 s l) = colSum (fun x t => rawS x t
        * (gwS (gvec v16 v20 v24 v28 v32 v34 v37 v41 v45 v49) (dS x t)
          * cwS ![v10 (ix2 0 l), v11 (ix2 0 l), v12 (ix2 0 l)] t)) x t l
    ∧ ∑ s : Fin 8, L.2.1 (ix2 s l) = colSum (fun x t => pairS (tenth 1) (tenth 2) (dS x t)) x t l
    ∧ ∑ s : Fin 8, L.2.2.1 (ix2 s l) = colSum (fun x t => pairS (tenth 3) (tenth 4) (dS x t)) x t l
    ∧ ∑ s : Fin 8, L.2.2.2.1 (ix2 s l) = colSum (fun x t => pairS (tenth 5) (tenth 6) (dS x t)) x t l
    ∧ ∑ s : Fin 8, L.2.2.2.2.1 (ix2 s l) = colSum (fun x t => pairS (tenth 7) (tenth 8) (dS x t)) x t l
    ∧ ∑ s : Fin 8, L.2.2.2.2.2.1 (ix2 s l) = colSum (fun x t => oneS (tenth 9) (dS x t)) x t l
    ∧ ∑ s : Fin 8, L.2.2.2.2.2.2 (ix2 s l) = colSum (fun _ t => pairS (third 1) (third 2) t) x t l := by
  subst hL
  have hs := fun k : Fin 4 => (st_k0_t1_succ (F := Ideal) 𝒱 c bd i arg1 harg1 arg2 harg2 arg3 harg3 arg4 harg4 arg5 harg5 arg6 harg6 arg7 harg7 arg8
      harg8 arg9 harg9 arg10 harg10 arg11 harg11
    v10 v11 v12 v16 v20 v24 v28 v32 v34 v37 v41 v45 v49 (harg2.unread x) (harg3.unread t)
    (k0_pay1681, k0_pay1681, k0_pay1681, k0_pay1681, k0_pay1681, k0_pay1681, k0_pay1681) (tr k)).trans
    (trip_eq (F := Ideal) 𝒱 c bd i arg1 harg1 arg2 harg2 arg3 harg3 arg4 harg4 arg5 harg5 arg6 harg6 arg7 harg7 arg8
      harg8 arg9 harg9 arg10 harg10 arg11 harg11
      v10 v11 v12 v16 v20 v24 v28 v32 v34 v37 v41 v45 v49 (harg2.unread x) (harg3.unread t) (tr k) _)
  have h0 := st_k0_t1_zero (F := Ideal) 𝒱 c bd i arg1 harg1 arg2 harg2 arg3 harg3 arg4 harg4 arg5 harg5 arg6 harg6 arg7 harg7 arg8
      harg8 arg9 harg9 arg10 harg10 arg11 harg11
    v10 v11 v12 v16 v20 v24 v28 v32 v34 v37 v41 v45 v49 (harg2.unread x) (harg3.unread t)
    (k0_pay1681, k0_pay1681, k0_pay1681, k0_pay1681, k0_pay1681, k0_pay1681, k0_pay1681)
  rw [loopOut, show Scf.trips k0_t1_loop.lb k0_t1_loop.ub k0_t1_loop.st = 4 from trips_eq]
  generalize st_k0_t1 (F := Ideal) 𝒱 c bd i arg1 harg1 arg2 harg2 arg3 harg3 arg4 harg4 arg5 harg5 arg6 harg6 arg7 harg7 arg8
      harg8 arg9 harg9 arg10 harg10 arg11 harg11
    v10 v11 v12 v16 v20 v24 v28 v32 v34 v37 v41 v45 v49 (harg2.unread x) (harg3.unread t)
    (k0_pay1681, k0_pay1681, k0_pay1681, k0_pay1681, k0_pay1681, k0_pay1681, k0_pay1681) = S at hs h0 ⊢
  refine ⟨carried (fun n => (S n).1) (fun a b => lossOf v10 v11 v12 v16 v20 v24 v28 v32 (k0_pay1676 v34)
      (k0_pay1677 v37) (k0_pay1678 v41) (k0_pay1679 v45) (k0_pay1680 v49) a b)
      (fun l x t => rawS x t * (gwS (gvec v16 v20 v24 v28 v32 v34 v37 v41 v45 v49) (dS x t)
          * cwS ![v10 (ix2 0 l), v11 (ix2 0 l), v12 (ix2 0 l)] t)) arg2 arg3 harg2 harg3 x t
      (fun a b s l => lossOf_apply a b (ix2 s l) ..) (congrArg (·.1) h0) (fun k => congrArg (·.1) (hs k)) l,
    carried (fun n => (S n).2.1) (fun a b => gaOf (vD a b))
      (fun _ x t => pairS (tenth 1) (tenth 2) (dS x t)) arg2 arg3 harg2 harg3 x t
      (fun a b s l => (gaOf_apply ..).trans (congrArg _ (vD_apply ..))) (congrArg (·.2.1) h0)
      (fun k => congrArg (·.2.1) (hs k)) l,
    carried (fun n => (S n).2.2.1) (fun a b => gbOf (vD a b))
      (fun _ x t => pairS (tenth 3) (tenth 4) (dS x t)) arg2 arg3 harg2 harg3 x t
      (fun a b s l => (gbOf_apply ..).trans (congrArg _ (vD_apply ..))) (congrArg (·.2.2.1) h0)
      (fun k => congrArg (·.2.2.1) (hs k)) l,
    carried (fun n => (S n).2.2.2.1) (fun a b => gcOf (vD a b))
      (fun _ x t => pairS (tenth 5) (tenth 6) (dS x t)) arg2 arg3 harg2 harg3 x t
      (fun a b s l => (gcOf_apply ..).trans (congrArg _ (vD_apply ..))) (congrArg (·.2.2.2.1) h0)
      (fun k => congrArg (·.2.2.2.1) (hs k)) l,
    carried (fun n => (S n).2.2.2.2.1) (fun a b => gdOf (vD a b))
      (fun _ x t => pairS (tenth 7) (tenth 8) (dS x t)) arg2 arg3 harg2 harg3 x t
      (fun a b s l => (gdOf_apply ..).trans (congrArg _ (vD_apply ..))) (congrArg (·.2.2.2.2.1) h0)
      (fun k => congrArg (·.2.2.2.2.1) (hs k)) l,
    carried (fun n => (S n).2.2.2.2.2.1) (fun a b => geOf (vD a b))
      (fun _ x t => oneS (tenth 9) (dS x t)) arg2 arg3 harg2 harg3 x t
      (fun a b s l => (geOf_apply ..).trans (congrArg _ (vD_apply ..))) (congrArg (·.2.2.2.2.2.1) h0)
      (fun k => congrArg (·.2.2.2.2.2.1) (hs k)) l,
    carried (fun n => (S n).2.2.2.2.2.2) (fun _ b => tpOf b) (fun _ _ t => pairS (third 1) (third 2) t) arg2 arg3 harg2 harg3 x t
      (fun a b s l => tpOf_apply b (ix2 s l)) (congrArg (·.2.2.2.2.2.2) h0)
      (fun k => congrArg (·.2.2.2.2.2.2) (hs k)) l⟩

end

end Cert.KernelIdeal.Tile

end
-- ==== Proof.Rows.lean ====
/- A buffer of rows updated one row at a time, and what each kind of update adds to its row. -/
module

public import proofs.«01_k».proof.Proof.Sums
public import Idealize.ShloMosaic.Lib.Pipeline.FrameBody
public import Idealize.ShloMosaic.Lib.Pipeline.Frame

@[expose] public section

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen

/-- One row of lanes. -/
abbrev Row : Type := Vec Ideal S1x1000 .f32

/-- Shape of a buffer of `N` rows. -/
abbrev SRows (N : ℕ) : Shape := ⟨2, ![N, 1000]⟩

theorem row_inb {N : ℕ} (k : Fin N) : ∀ a, (![k.val, 0] : Fin 2 → ℕ) a + S1x1000.size a ≤ (SRows N).size a := by
  intro a
  match a with
  | ⟨0, _⟩ => exact k.isLt
  | ⟨1, _⟩ => exact le_refl 1000

/-- The rectangle that is row `k`. -/
abbrev rowRect {N : ℕ} (k : Fin N) : Rect (SRows N) := Rect.unit (s := SRows N) ![k.val, 0] S1x1000.size (row_inb k)

theorem rowRect_emb {N : ℕ} (k : Fin N) (l : Fin 1000) : (rowRect k).emb (ix2 (0 : Fin 1) l) = ix2 k l := by
  refine (eq_ix2 _).trans (congrArg₂ ix2 (Fin.ext ?_) (Fin.ext ?_))
  · show k.val + 1 * 0 = k.val
    omega
  · show 0 + 1 * l.val = l.val
    omega

/-- Newest row wins. -/
theorem canon_row {N : ℕ} (k : Fin N) (w : Row) (L : List (View.Piece (Elt Ideal) (SRows N) .f32)) (r : Fin N)
    (l : Fin 1000) :
    View.canon (⟨rowRect k, w⟩ :: L) (ix2 r l) = if r = k then w (ix2 0 l) else View.canon L (ix2 r l) := by
  by_cases h : r = k
  · subst h
    rw [if_pos rfl, ← rowRect_emb r l]
    exact View.canon_cons_emb (rowRect r) w L (ix2 (0 : Fin 1) l)
  · rw [if_neg h]
    refine View.canon_cons_of_not_mem ⟨rowRect k, w⟩ L ?_
    rw [Rect.mem_set_unit]
    intro hall
    have h0 : k.val ≤ r.val ∧ r.val < k.val + 1 := hall 0
    exact h (Fin.ext (by omega))

section
variable {N : ℕ} (B : List (View.Piece (Elt Ideal) (SRows N) .f32)) (P : Fin N → Row → Row)
  (rd : List (View.Piece (Elt Ideal) (SRows N) .f32) → Fin N → Row)

/-- The first `n` rows updated in order, each from what is read back of it. -/
def rowsFrom : (n : ℕ) → n ≤ N → List (View.Piece (Elt Ideal) (SRows N) .f32)
  | 0, _ => B
  | n + 1, h => ⟨rowRect ⟨n, h⟩, P ⟨n, h⟩ (rd (rowsFrom n (Nat.le_of_succ_le h)) ⟨n, h⟩)⟩
      :: rowsFrom n (Nat.le_of_succ_le h)

/-- Each row holds its own update. -/
theorem canon_rowsFrom (n : ℕ) (h : n ≤ N) (r : Fin N) (l : Fin 1000) :
    View.canon (rowsFrom B P rd n h) (ix2 r l)
      = if r.val < n then P r (rd (rowsFrom B P rd r.val r.isLt.le) r) (ix2 0 l) else View.canon B (ix2 r l) := by
  induction n with
  | zero => rfl
  | succ n ih =>
    rw [rowsFrom, canon_row, ih]
    by_cases hr : r = ⟨n, h⟩
    · subst hr
      rw [if_pos rfl, if_pos (Nat.lt_succ_self n)]
    · have hne : r.val ≠ n := fun he => hr (Fin.ext he)
      rw [if_neg hr]
      by_cases hl : r.val < n
      · rw [if_pos hl, if_pos (by omega)]
      · rw [if_neg hl, if_neg (by omega)]

/-- When an update adds to its row, the buffer ends with what it held plus what was added. -/
theorem canon_rows_add (base gain : Fin N → Fin 1000 → EReal)
    (hP : ∀ r w l, P r w (ix2 0 l) = w (ix2 0 l) + gain r l)
    (hrd : ∀ L r l, View.canon L (ix2 r l) = View.canon B (ix2 r l) → rd L r (ix2 0 l) = base r l)
    (r : Fin N) (l : Fin 1000) :
    View.canon (rowsFrom B P rd N le_rfl) (ix2 r l) = base r l + gain r l := by
  rw [canon_rowsFrom, if_pos r.isLt, hP, hrd]
  rw [canon_rowsFrom, if_neg (lt_irrefl _)]

end

/-- A row read from a whole buffer. -/
theorem readRow_unread {N : ℕ} (M : Memref sig .tc .vmem (SRows N) .f32) (h : M.IsWhole) (x : Vec Ideal (SRows N) .f32)
    (r : Fin N) (l : Fin 1000) :
    View.readAt (Elt Ideal) M.view (rowRect r).toLoadRect (h.unread x) (ix2 (0 : Fin 1) l) = x (ix2 r l) := by
  show M.view.read (Elt Ideal) (h.unread x) _ = _
  rw [h.read_unread]
  exact congrArg x (rowRect_emb r l)

/-- A row read back over the updates made so far. -/
theorem readRow_cov {N : ℕ} (v : View sig .tc .vmem (SRows N) .f32) (L : List (View.Piece (Elt Ideal) (SRows N) .f32))
    (r : Fin N) (l : Fin 1000) :
    v.readCov L (rowRect r).toLoadRect (ix2 (0 : Fin 1) l) = View.canon L (ix2 r l) := by
  rw [View.readCov_eq_canon']
  exact congrArg (View.canon L) (rowRect_emb r l)

/-- Eight sublanes summed. -/
theorem sublanes_apply (v : T8 Ideal) (l : Fin 1000) : k0_pay1687 v (ix2 0 l) = ∑ s : Fin 8, v (ix2 s l) := by
  show shapeCast S1x1000 (multiReduction .add [0] S1000 v 0x00000000#32 reduces_S8x1000_S1000 (.inl rfl) rfl)
    shapeCasts_S1000_S1x1000 (ix2 0 l) = _
  rw [shapeCast_a_1a_apply]
  refine (Ideal.multiReduction_add_single ..).trans ?_
  exact Finset.sum_congr rfl fun s _ => congrArg v (eq_ix2 _)

/-- A row plus the sublanes' sums. -/
def addRow (v : T8 Ideal) (w : Row) : Row := k0_pay1686 v w
/-- A row plus the first of two packed counters. -/
def loRow (v : T8 Ideal) (w : Row) : Row :=
  k0_pay1689 (k0_pay1687 v) (k0_pay1688 v) (Scalar.ofBits .f32 0x45800000#32) w
/-- A row plus the second of two packed counters. -/
def hiRow (v : T8 Ideal) (w : Row) : Row := k0_pay1690 (k0_pay1688 v) w

theorem addRow_apply (v : T8 Ideal) (w : Row) (l : Fin 1000) :
    addRow v w (ix2 0 l) = w (ix2 0 l) + ∑ s : Fin 8, v (ix2 s l) := by
  rw [← sublanes_apply]
  show shapeCast S1x1000 (addf w (k0_pay1687 v)) shapeCasts_S1x1000_S1x1000 (ix2 0 l) = _
  rw [shapeCast_self]
  rfl

theorem hi_apply (v : T8 Ideal) (l : Fin 1000) :
    k0_pay1688 v (ix2 0 l) = Ideal.liftRound Int.floor ((∑ s : Fin 8, v (ix2 s l)) * ((1 / 4096 : ℝ) : EReal)) := by
  rw [← sublanes_apply, ← ofBits_inv4096]
  rfl

theorem hiRow_apply (v : T8 Ideal) (w : Row) (l : Fin 1000) :
    hiRow v w (ix2 0 l)
      = w (ix2 0 l) + Ideal.liftRound Int.floor ((∑ s : Fin 8, v (ix2 s l)) * ((1 / 4096 : ℝ) : EReal)) := by
  rw [← hi_apply]
  show shapeCast S1x1000 (addf w (k0_pay1688 v)) shapeCasts_S1x1000_S1x1000 (ix2 0 l) = _
  rw [shapeCast_self]
  rfl

theorem loRow_apply (v : T8 Ideal) (w : Row) (l : Fin 1000) :
    loRow v w (ix2 0 l) = w (ix2 0 l) + ((∑ s : Fin 8, v (ix2 s l))
      - Ideal.liftRound Int.floor ((∑ s : Fin 8, v (ix2 s l)) * ((1 / 4096 : ℝ) : EReal)) * ((4096 : ℝ) : EReal)) := by
  rw [← hi_apply, ← sublanes_apply, ← ofBits_4096]
  show shapeCast S1x1000 (addf w (subf (k0_pay1687 v) (mulf (k0_pay1688 v) _))) shapeCasts_S1x1000_S1x1000 (ix2 0 l) = _
  rw [shapeCast_self]
  rfl

end Cert.KernelIdeal.Tile

end
-- ==== Proof.Step.lean ====
/- One step of the kernel's grid: what it leaves in the three scratch buffers, as what they held plus
   the step's sums. -/
module

public import proofs.«01_k».proof.Proof.Loop
public import proofs.«01_k».proof.Proof.Rows
public import proofs.«01_k».proof.Proof.Gen.KernelIdeal.Frame

@[expose] public section

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen

/-- The seven carried vectors. -/
abbrev T7 : Type := T8 Ideal × T8 Ideal × T8 Ideal × T8 Ideal × T8 Ideal × T8 Ideal × T8 Ideal

/-- The row updates of the loss buffer. -/
def P0 (V : T7) : Fin 1 → Row → Row := ![addRow V.1]

/-- The row updates of the distance counters' buffer. -/
def P1 (V : T7) : Fin 9 → Row → Row :=
  ![loRow V.2.1, hiRow V.2.1, loRow V.2.2.1, hiRow V.2.2.1, loRow V.2.2.2.1, hiRow V.2.2.2.1,
    loRow V.2.2.2.2.1, hiRow V.2.2.2.2.1, addRow V.2.2.2.2.2.1]

/-- The row updates of the target counters' buffer. -/
def P2 (V : T7) : Fin 2 → Row → Row := ![loRow V.2.2.2.2.2.2, hiRow V.2.2.2.2.2.2]

/-- The weight a density gives. -/
def wOf (y : EReal) : EReal := Ideal.sqrt (Ideal.div 1 y + Ideal.ofBits .f32 0x3A83126F#32)

/-- One element's weighted loss in lane `l`. -/
def lossTerm (x0 : Vec Ideal S10 .f32) (x3 : Vec Ideal S3x1000 .f32) (l : Fin 1000) (x t : EReal) : EReal :=
  rawS x t * (gwS (fun k => wOf (x0 (ix1 k))) (dS x t) * cwS (fun k => wOf (x3 (ix2 k l))) t)

/-- The row of tenth `k + 1` counts distances at least that. -/
def gmTerm (k : Fin 9) (x t : EReal) : EReal := oneS (tenth (k.val + 1)) (dS x t)

/-- The row of third `k + 1` counts targets at least that. -/
def tpTerm (k : Fin 2) (_ t : EReal) : EReal := oneS (third (k.val + 1)) t

/-- The second of two packed counters, added to a row. -/
theorem hi_gain {a b : EReal} (hab : a ≤ b) (d : Fin 2048 → EReal) (v : T8 Ideal) (w : Row) (l : Fin 1000)
    (h : ∑ s : Fin 8, v (ix2 s l) = ∑ r, pairS a b (d r)) :
    hiRow v w (ix2 0 l) = w (ix2 0 l) + ∑ r, oneS b (d r) := by
  rw [hiRow_apply, h, unpack_hi hab (by norm_num)]

/-- The first of two packed counters, added to a row. -/
theorem lo_gain {a b : EReal} (hab : a ≤ b) (d : Fin 2048 → EReal) (v : T8 Ideal) (w : Row) (l : Fin 1000)
    (h : ∑ s : Fin 8, v (ix2 s l) = ∑ r, pairS a b (d r)) :
    loRow v w (ix2 0 l) = w (ix2 0 l) + ∑ r, oneS a (d r) := by
  rw [loRow_apply, h, unpack_hi hab (by norm_num), unpack_lo hab]

/-- A buffer filled with zeros reads zero. -/
theorem canon_fill {N : ℕ} (inb : ∀ a, (![0, 0] : Fin 2 → ℕ) a + (SRows N).size a ≤ (SRows N).size a)
    (w : Vec Ideal (SRows N) .f32) (hw : ∀ y, w y = 0) (r : Fin N) (l : Fin 1000) :
    View.canon (Val := Elt Ideal) (e := .f32) [⟨Rect.unit (s := SRows N) ![0, 0] (SRows N).size inb, w⟩] (ix2 r l) = 0 := by
  have he : (Rect.unit (s := SRows N) ![0, 0] (SRows N).size inb).emb (ix2 r l) = ix2 r l := by
    refine (eq_ix2 _).trans (congrArg₂ ix2 (Fin.ext ?_) (Fin.ext ?_))
    · show 0 + 1 * r.val = r.val
      omega
    · show 0 + 1 * l.val = l.val
      omega
  rw [← he]
  exact (View.canon_cons_emb (Rect.unit (s := SRows N) ![0, 0] (SRows N).size inb) w [] (ix2 r l)).trans (hw _)

theorem zero0 (y : S1x1000.Idx) : k0_pay1663 (F := Ideal) y = 0 := by
  show shapeCast S1x1000 (broadcast S1x1000 (Ideal.ofBits .f32 0x00000000#32)) shapeCasts_S1x1000_S1x1000 y = 0
  rw [shapeCast_self]
  exact Ideal.ofBits_zero_f32
theorem zero1 (y : S9x1000.Idx) : k0_pay1664 (F := Ideal) y = 0 := by
  show shapeCast S9x1000 (broadcast S9x1000 (Ideal.ofBits .f32 0x00000000#32)) shapeCasts_S9x1000_S9x1000 y = 0
  rw [shapeCast_self]
  exact Ideal.ofBits_zero_f32
theorem zero2 (y : S2x1000.Idx) : k0_pay1665 (F := Ideal) y = 0 := by
  show shapeCast S2x1000 (broadcast S2x1000 (Ideal.ofBits .f32 0x00000000#32)) shapeCasts_S2x1000_S2x1000 y = 0
  rw [shapeCast_self]
  exact Ideal.ofBits_zero_f32

section
variable (c : Dev nD) (i : grid0.Coords)
  (arg1 : Memref sig .tc .smem S10 .f32) (harg1 : arg1.IsWhole)
  (arg2 : Memref sig .tc .vmem S2048x1000 .f32) (harg2 : arg2.IsWhole)
  (arg3 : Memref sig .tc .vmem S2048x1000 .f32) (harg3 : arg3.IsWhole)
  (arg4 : Memref sig .tc .vmem S3x1000 .f32) (harg4 : arg4.IsWhole)
  (arg5 : Memref sig .tc .vmem S10x1 .f32) (harg5 : arg5.IsWhole)
  (arg6 : Memref sig .tc .vmem S1x1 .f32) (harg6 : arg6.IsWhole)
  (arg7 : Memref sig .tc .vmem S10x1 .f32) (harg7 : arg7.IsWhole)
  (arg8 : Memref sig .tc .vmem S3x1000 .f32) (harg8 : arg8.IsWhole)
  (arg9 : Memref sig .tc .vmem S1x1000 .f32) (harg9 : arg9.IsWhole)
  (arg10 : Memref sig .tc .vmem S9x1000 .f32) (harg10 : arg10.IsWhole)
  (arg11 : Memref sig .tc .vmem S2x1000 .f32) (harg11 : arg11.IsWhole)
  (x0 : Vec Ideal S10 .f32) (x1 x2 : Vec Ideal S2048x1000 .f32) (x3 : Vec Ideal S3x1000 .f32)
  (x4 : Vec Ideal S10x1 .f32)

/-- The label densities as loaded. -/
abbrev rdL : Vec Ideal S3x1000 .f32 :=
  View.readAt (Elt Ideal) arg4.view (Rect.unit (s := S3x1000) ![0, 0] S3x1000.size inb_S3x1000_S3x1000_0_0).toLoadRect
    (harg4.unread x3)

theorem inb10 (k : Fin 10) : ∀ a, (![k.val] : Fin 1 → ℕ) a + S1.size a ≤ S10.size a := by
  intro a
  match a with
  | ⟨0, _⟩ => exact k.isLt

/-- One gradient density as loaded. -/
abbrev rdG (k : Fin 10) : Elt Ideal .f32 :=
  View.readAt (Elt Ideal) arg1.view (Rect.unit (s := S10) ![k.val] S1.size (inb10 k)).toLoadRect (harg1.unread x0)
    (Shape.Idx.first (s := S1) (by decide))

/-- The seven vectors a step's loop carries out. -/
abbrev stepOut : T7 :=
  loopOut Variants.none c none i arg1 harg1 arg2 harg2 arg3 harg3 arg4 harg4 arg5 harg5 arg6 harg6 arg7 harg7 arg8
      harg8 arg9 harg9 arg10 harg10 arg11 harg11
    (k0_pay1667 (rdL arg4 harg4 x3)) (k0_pay1668 (rdL arg4 harg4 x3)) (k0_pay1669 (rdL arg4 harg4 x3))
    (k0_pay1670 (rdG arg1 harg1 x0 0)) (k0_pay1671 (rdG arg1 harg1 x0 1)) (k0_pay1672 (rdG arg1 harg1 x0 2))
    (k0_pay1673 (rdG arg1 harg1 x0 3)) (k0_pay1674 (rdG arg1 harg1 x0 4)) (k0_pay1675 (rdG arg1 harg1 x0 5))
    (rdG arg1 harg1 x0 6) (rdG arg1 harg1 x0 7) (rdG arg1 harg1 x0 8) (rdG arg1 harg1 x0 9) x1 x2

/-- The loaded label densities are the block. -/
theorem rdL_eq : rdL arg4 harg4 x3 = x3 := by
  funext y
  show arg4.view.read (Elt Ideal) (harg4.unread x3) _ = _
  rw [harg4.read_unread]
  refine congrArg x3 (funext fun a => Fin.ext ?_)
  match a with
  | ⟨0, _⟩ => show 0 + 1 * (y 0).val = (y 0).val; omega
  | ⟨1, _⟩ => show 0 + 1 * (y 1).val = (y 1).val; omega

/-- The loaded gradient density is the table's. -/
theorem rdG_eq (k : Fin 10) : rdG arg1 harg1 x0 k = x0 (ix1 k) := by
  show arg1.view.read (Elt Ideal) (harg1.unread x0) _ = _
  rw [harg1.read_unread]
  refine congrArg x0 (funext fun a => Fin.ext ?_)
  match a with
  | ⟨0, _⟩ => show k.val + 1 * 0 = k.val; omega

/-- A density's weight as the kernel's scalar unit computes it. -/
theorem scalarW (y : EReal) : k0_pay1670 (F := Ideal) y = wOf y := by
  show Ideal.sqrt (Ideal.div (Ideal.ofBits .f32 0x3F800000#32) y + Ideal.ofBits .f32 0x3A83126F#32) = _
  rw [Ideal.ofBits_one_f32]
  rfl

/-- The label weights' rows. -/
theorem rowW (v : Vec Ideal S3x1000 .f32) (y : S3x1000.Idx) : k0_pay1666 v y = wOf (v y) := by
  show Ideal.sqrt (Ideal.div (Ideal.ofBits .f32 0x3F800000#32) (shapeCast S3x1000 v shapeCasts_S3x1000_S3x1000 y)
    + Ideal.ofBits .f32 0x3A83126F#32) = _
  rw [Ideal.ofBits_one_f32, shapeCast_self]
  rfl

/-- What a step adds to the loss buffer. -/
theorem P0_gain (r : Fin 1) (w : Row) (l : Fin 1000) :
    P0 (stepOut c i arg1 harg1 arg2 harg2 arg3 harg3 arg4 harg4 arg5 harg5 arg6 harg6 arg7 harg7 arg8
      harg8 arg9 harg9 arg10 harg10 arg11 harg11 x0 x1 x2 x3) r w (ix2 0 l) = w (ix2 0 l) + colSum (lossTerm x0 x3 l) x1 x2 l := by
  obtain rfl : r = 0 := Subsingleton.elim _ _
  have h := (loopOut_sum Variants.none c none i arg1 harg1 arg2 harg2 arg3 harg3 arg4 harg4 arg5 harg5 arg6 harg6 arg7 harg7 arg8
      harg8 arg9 harg9 arg10 harg10 arg11 harg11
    (k0_pay1667 (rdL arg4 harg4 x3)) (k0_pay1668 (rdL arg4 harg4 x3)) (k0_pay1669 (rdL arg4 harg4 x3))
    (k0_pay1670 (rdG arg1 harg1 x0 0)) (k0_pay1671 (rdG arg1 harg1 x0 1)) (k0_pay1672 (rdG arg1 harg1 x0 2))
    (k0_pay1673 (rdG arg1 harg1 x0 3)) (k0_pay1674 (rdG arg1 harg1 x0 4)) (k0_pay1675 (rdG arg1 harg1 x0 5))
    (rdG arg1 harg1 x0 6) (rdG arg1 harg1 x0 7) (rdG arg1 harg1 x0 8) (rdG arg1 harg1 x0 9) x1 x2 l _ rfl).1
  refine (addRow_apply _ w l).trans (congrArg (w (ix2 0 l) + ·) (h.trans ?_))
  have hg : gvec (k0_pay1670 (rdG arg1 harg1 x0 0)) (k0_pay1671 (rdG arg1 harg1 x0 1)) (k0_pay1672 (rdG arg1 harg1 x0 2))
    (k0_pay1673 (rdG arg1 harg1 x0 3)) (k0_pay1674 (rdG arg1 harg1 x0 4)) (k0_pay1675 (rdG arg1 harg1 x0 5))
    (rdG arg1 harg1 x0 6) (rdG arg1 harg1 x0 7) (rdG arg1 harg1 x0 8) (rdG arg1 harg1 x0 9)
      = fun k => wOf (x0 (ix1 k)) := by
    funext k
    rw [← rdG_eq arg1 harg1 x0 k, ← scalarW]
    fin_cases k <;> rfl
  have hw : (![k0_pay1667 (rdL arg4 harg4 x3) (ix2 0 l), k0_pay1668 (rdL arg4 harg4 x3) (ix2 0 l),
      k0_pay1669 (rdL arg4 harg4 x3) (ix2 0 l)] : Fin 3 → EReal) = fun k => wOf (x3 (ix2 k l)) := by
    rw [rdL_eq]
    funext k
    rw [← rowW]
    fin_cases k <;> exact congrArg (k0_pay1666 x3)
      ((eq_ix2 _).trans (congrArg₂ ix2 (Fin.ext rfl) (Fin.ext (Nat.zero_add _))))
  rw [hg, hw]
  rfl

/-- What a step adds to the distance counters. -/
theorem P1_gain (r : Fin 9) (w : Row) (l : Fin 1000) :
    P1 (stepOut c i arg1 harg1 arg2 harg2 arg3 harg3 arg4 harg4 arg5 harg5 arg6 harg6 arg7 harg7 arg8
      harg8 arg9 harg9 arg10 harg10 arg11 harg11 x0 x1 x2 x3) r w (ix2 0 l) = w (ix2 0 l) + colSum (gmTerm r) x1 x2 l := by
  obtain ⟨-, ha, hb, hc, hd, he, -⟩ := loopOut_sum Variants.none c none i arg1 harg1 arg2 harg2 arg3 harg3 arg4 harg4 arg5 harg5 arg6 harg6 arg7 harg7 arg8
      harg8 arg9 harg9 arg10 harg10 arg11 harg11
    (k0_pay1667 (rdL arg4 harg4 x3)) (k0_pay1668 (rdL arg4 harg4 x3)) (k0_pay1669 (rdL arg4 harg4 x3))
    (k0_pay1670 (rdG arg1 harg1 x0 0)) (k0_pay1671 (rdG arg1 harg1 x0 1)) (k0_pay1672 (rdG arg1 harg1 x0 2))
    (k0_pay1673 (rdG arg1 harg1 x0 3)) (k0_pay1674 (rdG arg1 harg1 x0 4)) (k0_pay1675 (rdG arg1 harg1 x0 5))
    (rdG arg1 harg1 x0 6) (rdG arg1 harg1 x0 7) (rdG arg1 harg1 x0 8) (rdG arg1 harg1 x0 9) x1 x2 l _ rfl
  have ht : ∀ n : ℕ, tenth n ≤ tenth (n + 1) := fun n => by
    rw [tenth, tenth, EReal.coe_le_coe_iff]; push_cast; linarith
  have lo := fun n v h => lo_gain (ht n) (fun r : Fin 2048 => dS (x1 (ix2 r l)) (x2 (ix2 r l))) v w l h
  have hi := fun n v h => hi_gain (ht n) (fun r : Fin 2048 => dS (x1 (ix2 r l)) (x2 (ix2 r l))) v w l h
  fin_cases r
  · exact lo 1 _ ha
  · exact hi 1 _ ha
  · exact lo 3 _ hb
  · exact hi 3 _ hb
  · exact lo 5 _ hc
  · exact hi 5 _ hc
  · exact lo 7 _ hd
  · exact hi 7 _ hd
  · exact (addRow_apply _ w l).trans (congrArg (w (ix2 0 l) + ·) he)

/-- What a step adds to the target counters. -/
theorem P2_gain (r : Fin 2) (w : Row) (l : Fin 1000) :
    P2 (stepOut c i arg1 harg1 arg2 harg2 arg3 harg3 arg4 harg4 arg5 harg5 arg6 harg6 arg7 harg7 arg8
      harg8 arg9 harg9 arg10 harg10 arg11 harg11 x0 x1 x2 x3) r w (ix2 0 l) = w (ix2 0 l) + colSum (tpTerm r) x1 x2 l := by
  obtain ⟨-, -, -, -, -, -, ha⟩ := loopOut_sum Variants.none c none i arg1 harg1 arg2 harg2 arg3 harg3 arg4 harg4 arg5 harg5 arg6 harg6 arg7 harg7 arg8
      harg8 arg9 harg9 arg10 harg10 arg11 harg11
    (k0_pay1667 (rdL arg4 harg4 x3)) (k0_pay1668 (rdL arg4 harg4 x3)) (k0_pay1669 (rdL arg4 harg4 x3))
    (k0_pay1670 (rdG arg1 harg1 x0 0)) (k0_pay1671 (rdG arg1 harg1 x0 1)) (k0_pay1672 (rdG arg1 harg1 x0 2))
    (k0_pay1673 (rdG arg1 harg1 x0 3)) (k0_pay1674 (rdG arg1 harg1 x0 4)) (k0_pay1675 (rdG arg1 harg1 x0 5))
    (rdG arg1 harg1 x0 6) (rdG arg1 harg1 x0 7) (rdG arg1 harg1 x0 8) (rdG arg1 harg1 x0 9) x1 x2 l _ rfl
  have ht : third 1 ≤ third 2 := by
    rw [third, third, EReal.coe_le_coe_iff]; norm_num
  fin_cases r
  · exact lo_gain ht (fun r : Fin 2048 => x2 (ix2 r l)) _ w l ha
  · exact hi_gain ht (fun r : Fin 2048 => x2 (ix2 r l)) _ w l ha

/-- The first step, on the loss. -/
theorem scrA0 (hc0 : cond0_0 i) (hc1 : ¬cond0_1 i) (r : Fin 1) (l : Fin 1000) :
    sout0_A_0 c i arg1 harg1 arg2 harg2 arg3 harg3 arg4 harg4 arg5 harg5 arg6 harg6 arg7 harg7 arg8
      harg8 arg9 harg9 arg10 harg10 arg11 harg11 hc0 hc1
      x0 x1 x2 x3 x4 (ix2 r l) = colSum (lossTerm x0 x3 l) x1 x2 l := by
  have hL : (kernelRun0_A (F := Ideal) c i arg1 harg1 arg2 harg2 arg3 harg3 arg4 harg4 arg5 harg5 arg6 harg6 arg7 harg7 arg8
      harg8 arg9 harg9 arg10 harg10 arg11 harg11 hc0 hc1
      x0 x1 x2 x3 x4).2.2.2.1
      = rowsFrom [⟨Rect.unit (s := S1x1000) ![0, 0] S1x1000.size inb_S1x1000_S1x1000_0_0, k0_pay1663 (F := Ideal)⟩] (P0 (stepOut c i arg1 harg1 arg2 harg2 arg3 harg3 arg4 harg4 arg5 harg5 arg6 harg6 arg7 harg7 arg8
      harg8 arg9 harg9 arg10 harg10 arg11 harg11 x0 x1 x2 x3))
          (fun L r => arg9.view.readCov L (rowRect r).toLoadRect) 1 le_rfl := rfl
  rw [sout0_A_0, View.read_writes_junk_eq_canon, hL]
  exact (canon_rows_add _ _ _ (fun _ _ => 0) (fun r l => colSum (lossTerm x0 x3 l) x1 x2 l)
    (fun r w l => P0_gain .. ) (fun L r l h => (readRow_cov arg9.view L r l).trans (h.trans (canon_fill _ _ zero0 r l))) r l).trans (zero_add _)

/-- The first step, on the distance counters. -/
theorem scrA1 (hc0 : cond0_0 i) (hc1 : ¬cond0_1 i) (r : Fin 9) (l : Fin 1000) :
    sout0_A_1 c i arg1 harg1 arg2 harg2 arg3 harg3 arg4 harg4 arg5 harg5 arg6 harg6 arg7 harg7 arg8
      harg8 arg9 harg9 arg10 harg10 arg11 harg11 hc0 hc1
      x0 x1 x2 x3 x4 (ix2 r l) = colSum (gmTerm r) x1 x2 l := by
  have hL : (kernelRun0_A (F := Ideal) c i arg1 harg1 arg2 harg2 arg3 harg3 arg4 harg4 arg5 harg5 arg6 harg6 arg7 harg7 arg8
      harg8 arg9 harg9 arg10 harg10 arg11 harg11 hc0 hc1
      x0 x1 x2 x3 x4).2.2.2.2.1
      = rowsFrom [⟨Rect.unit (s := S9x1000) ![0, 0] S9x1000.size inb_S9x1000_S9x1000_0_0, k0_pay1664 (F := Ideal)⟩] (P1 (stepOut c i arg1 harg1 arg2 harg2 arg3 harg3 arg4 harg4 arg5 harg5 arg6 harg6 arg7 harg7 arg8
      harg8 arg9 harg9 arg10 harg10 arg11 harg11 x0 x1 x2 x3))
          (fun L r => arg10.view.readCov L (rowRect r).toLoadRect) 9 le_rfl := rfl
  rw [sout0_A_1, View.read_writes_junk_eq_canon, hL]
  exact (canon_rows_add _ _ _ (fun _ _ => 0) (fun r l => colSum (gmTerm r) x1 x2 l)
    (fun r w l => P1_gain .. ) (fun L r l h => (readRow_cov arg10.view L r l).trans (h.trans (canon_fill _ _ zero1 r l))) r l).trans (zero_add _)

/-- The first step, on the target counters. -/
theorem scrA2 (hc0 : cond0_0 i) (hc1 : ¬cond0_1 i) (r : Fin 2) (l : Fin 1000) :
    sout0_A_2 c i arg1 harg1 arg2 harg2 arg3 harg3 arg4 harg4 arg5 harg5 arg6 harg6 arg7 harg7 arg8
      harg8 arg9 harg9 arg10 harg10 arg11 harg11 hc0 hc1
      x0 x1 x2 x3 x4 (ix2 r l) = colSum (tpTerm r) x1 x2 l := by
  have hL : (kernelRun0_A (F := Ideal) c i arg1 harg1 arg2 harg2 arg3 harg3 arg4 harg4 arg5 harg5 arg6 harg6 arg7 harg7 arg8
      harg8 arg9 harg9 arg10 harg10 arg11 harg11 hc0 hc1
      x0 x1 x2 x3 x4).2.2.2.2.2.1
      = rowsFrom [⟨Rect.unit (s := S2x1000) ![0, 0] S2x1000.size inb_S2x1000_S2x1000_0_0, k0_pay1665 (F := Ideal)⟩] (P2 (stepOut c i arg1 harg1 arg2 harg2 arg3 harg3 arg4 harg4 arg5 harg5 arg6 harg6 arg7 harg7 arg8
      harg8 arg9 harg9 arg10 harg10 arg11 harg11 x0 x1 x2 x3))
          (fun L r => arg11.view.readCov L (rowRect r).toLoadRect) 2 le_rfl := rfl
  rw [sout0_A_2, View.read_writes_junk_eq_canon, hL]
  exact (canon_rows_add _ _ _ (fun _ _ => 0) (fun r l => colSum (tpTerm r) x1 x2 l)
    (fun r w l => P2_gain .. ) (fun L r l h => (readRow_cov arg11.view L r l).trans (h.trans (canon_fill _ _ zero2 r l))) r l).trans (zero_add _)

/-- A middle step, on the loss. -/
theorem scrB0 (hc0 : ¬cond0_0 i) (hc1 : ¬cond0_1 i)
    (xs0 : Vec Ideal S1x1000 .f32) (xs1 : Vec Ideal S9x1000 .f32) (xs2 : Vec Ideal S2x1000 .f32) (r : Fin 1) (l : Fin 1000) :
    sout0_B_0 c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2 (ix2 r l) = xs0 (ix2 r l) + colSum (lossTerm x0 x3 l) x1 x2 l := by
  have hL : (kernelRun0_B (F := Ideal) c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2).2.2.2.1
      = rowsFrom [] (P0 (stepOut c i arg1 harg1 arg2 harg2 arg3 harg3 arg4 harg4 arg5 harg5 arg6 harg6 arg7 harg7 arg8
      harg8 arg9 harg9 arg10 harg10 arg11 harg11 x0 x1 x2 x3))
          (fun _ r => View.readAt (Elt Ideal) arg9.view (rowRect r).toLoadRect (harg9.unread xs0)) 1 le_rfl := rfl
  rw [sout0_B_0, View.read_writes_junk_eq_canon, hL]
  exact (canon_rows_add _ _ _ (fun r l => xs0 (ix2 r l)) (fun r l => colSum (lossTerm x0 x3 l) x1 x2 l)
    (fun r w l => P0_gain .. ) (fun _ r l _ => readRow_unread arg9 harg9 xs0 r l) r l)

/-- A middle step, on the distance counters. -/
theorem scrB1 (hc0 : ¬cond0_0 i) (hc1 : ¬cond0_1 i)
    (xs0 : Vec Ideal S1x1000 .f32) (xs1 : Vec Ideal S9x1000 .f32) (xs2 : Vec Ideal S2x1000 .f32) (r : Fin 9) (l : Fin 1000) :
    sout0_B_1 c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2 (ix2 r l) = xs1 (ix2 r l) + colSum (gmTerm r) x1 x2 l := by
  have hL : (kernelRun0_B (F := Ideal) c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2).2.2.2.2.1
      = rowsFrom [] (P1 (stepOut c i arg1 harg1 arg2 harg2 arg3 harg3 arg4 harg4 arg5 harg5 arg6 harg6 arg7 harg7 arg8
      harg8 arg9 harg9 arg10 harg10 arg11 harg11 x0 x1 x2 x3))
          (fun _ r => View.readAt (Elt Ideal) arg10.view (rowRect r).toLoadRect (harg10.unread xs1)) 9 le_rfl := rfl
  rw [sout0_B_1, View.read_writes_junk_eq_canon, hL]
  exact (canon_rows_add _ _ _ (fun r l => xs1 (ix2 r l)) (fun r l => colSum (gmTerm r) x1 x2 l)
    (fun r w l => P1_gain .. ) (fun _ r l _ => readRow_unread arg10 harg10 xs1 r l) r l)

/-- A middle step, on the target counters. -/
theorem scrB2 (hc0 : ¬cond0_0 i) (hc1 : ¬cond0_1 i)
    (xs0 : Vec Ideal S1x1000 .f32) (xs1 : Vec Ideal S9x1000 .f32) (xs2 : Vec Ideal S2x1000 .f32) (r : Fin 2) (l : Fin 1000) :
    sout0_B_2 c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2 (ix2 r l) = xs2 (ix2 r l) + colSum (tpTerm r) x1 x2 l := by
  have hL : (kernelRun0_B (F := Ideal) c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2).2.2.2.2.2.1
      = rowsFrom [] (P2 (stepOut c i arg1 harg1 arg2 harg2 arg3 harg3 arg4 harg4 arg5 harg5 arg6 harg6 arg7 harg7 arg8
      harg8 arg9 harg9 arg10 harg10 arg11 harg11 x0 x1 x2 x3))
          (fun _ r => View.readAt (Elt Ideal) arg11.view (rowRect r).toLoadRect (harg11.unread xs2)) 2 le_rfl := rfl
  rw [sout0_B_2, View.read_writes_junk_eq_canon, hL]
  exact (canon_rows_add _ _ _ (fun r l => xs2 (ix2 r l)) (fun r l => colSum (tpTerm r) x1 x2 l)
    (fun r w l => P2_gain .. ) (fun _ r l _ => readRow_unread arg11 harg11 xs2 r l) r l)

/-- The last step, on the loss. -/
theorem scrC0 (hc0 : ¬cond0_0 i) (hc1 : cond0_1 i)
    (xs0 : Vec Ideal S1x1000 .f32) (xs1 : Vec Ideal S9x1000 .f32) (xs2 : Vec Ideal S2x1000 .f32) (r : Fin 1) (l : Fin 1000) :
    sout0_C_0 c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2 (ix2 r l) = xs0 (ix2 r l) + colSum (lossTerm x0 x3 l) x1 x2 l := by
  have hL : (kernelRun0_C (F := Ideal) c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2).2.2.2.1
      = rowsFrom [] (P0 (stepOut c i arg1 harg1 arg2 harg2 arg3 harg3 arg4 harg4 arg5 harg5 arg6 harg6 arg7 harg7 arg8
      harg8 arg9 harg9 arg10 harg10 arg11 harg11 x0 x1 x2 x3))
          (fun _ r => View.readAt (Elt Ideal) arg9.view (rowRect r).toLoadRect (harg9.unread xs0)) 1 le_rfl := rfl
  rw [sout0_C_0, View.read_writes_junk_eq_canon, hL]
  exact (canon_rows_add _ _ _ (fun r l => xs0 (ix2 r l)) (fun r l => colSum (lossTerm x0 x3 l) x1 x2 l)
    (fun r w l => P0_gain .. ) (fun _ r l _ => readRow_unread arg9 harg9 xs0 r l) r l)

/-- The last step, on the distance counters. -/
theorem scrC1 (hc0 : ¬cond0_0 i) (hc1 : cond0_1 i)
    (xs0 : Vec Ideal S1x1000 .f32) (xs1 : Vec Ideal S9x1000 .f32) (xs2 : Vec Ideal S2x1000 .f32) (r : Fin 9) (l : Fin 1000) :
    sout0_C_1 c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2 (ix2 r l) = xs1 (ix2 r l) + colSum (gmTerm r) x1 x2 l := by
  have hL : (kernelRun0_C (F := Ideal) c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2).2.2.2.2.1
      = rowsFrom [] (P1 (stepOut c i arg1 harg1 arg2 harg2 arg3 harg3 arg4 harg4 arg5 harg5 arg6 harg6 arg7 harg7 arg8
      harg8 arg9 harg9 arg10 harg10 arg11 harg11 x0 x1 x2 x3))
          (fun _ r => View.readAt (Elt Ideal) arg10.view (rowRect r).toLoadRect (harg10.unread xs1)) 9 le_rfl := rfl
  rw [sout0_C_1, View.read_writes_junk_eq_canon, hL]
  exact (canon_rows_add _ _ _ (fun r l => xs1 (ix2 r l)) (fun r l => colSum (gmTerm r) x1 x2 l)
    (fun r w l => P1_gain .. ) (fun _ r l _ => readRow_unread arg10 harg10 xs1 r l) r l)

/-- The last step, on the target counters. -/
theorem scrC2 (hc0 : ¬cond0_0 i) (hc1 : cond0_1 i)
    (xs0 : Vec Ideal S1x1000 .f32) (xs1 : Vec Ideal S9x1000 .f32) (xs2 : Vec Ideal S2x1000 .f32) (r : Fin 2) (l : Fin 1000) :
    sout0_C_2 c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2 (ix2 r l) = xs2 (ix2 r l) + colSum (tpTerm r) x1 x2 l := by
  have hL : (kernelRun0_C (F := Ideal) c i arg1 harg1 arg2 harg2 arg3 harg3 arg4 harg4 arg5 harg5 arg6 harg6 arg7 harg7 arg8
      harg8 arg9 harg9 arg10 harg10 arg11 harg11 hc0 hc1
      x0 x1 x2 x3 x4 xs0 xs1 xs2).2.2.2.2.2.1
      = rowsFrom [] (P2 (stepOut c i arg1 harg1 arg2 harg2 arg3 harg3 arg4 harg4 arg5 harg5 arg6 harg6 arg7 harg7 arg8
      harg8 arg9 harg9 arg10 harg10 arg11 harg11 x0 x1 x2 x3))
          (fun _ r => View.readAt (Elt Ideal) arg11.view (rowRect r).toLoadRect (harg11.unread xs2)) 2 le_rfl := rfl
  rw [sout0_C_2, View.read_writes_junk_eq_canon, hL]
  exact (canon_rows_add _ _ _ (fun r l => xs2 (ix2 r l)) (fun r l => colSum (tpTerm r) x1 x2 l)
    (fun r w l => P2_gain .. ) (fun _ r l _ => readRow_unread arg11 harg11 xs2 r l) r l)

end

end Cert.KernelIdeal.Tile

end
-- ==== Proof.Final.lean ====
/- The last step of the kernel's grid: what it stores to the three outputs, from what it leaves in the
   three scratch buffers. -/
module

public import proofs.«01_k».proof.Proof.Step

@[expose] public section

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen

/-- A rank-2 buffer written whole holds what was written. -/
theorem canon_whole {a b : ℕ} (inb : ∀ x, (![0, 0] : Fin 2 → ℕ) x + (⟨2, ![a, b]⟩ : Shape).size x ≤ (⟨2, ![a, b]⟩ : Shape).size x)
    (w : Vec Ideal ⟨2, ![a, b]⟩ .f32) :
    View.canon (Val := Elt Ideal) (e := .f32)
      [⟨Rect.unit (s := ⟨2, ![a, b]⟩) ![0, 0] (⟨2, ![a, b]⟩ : Shape).size inb, w⟩] = w := by
  funext y
  have he : (Rect.unit (s := ⟨2, ![a, b]⟩) ![0, 0] (⟨2, ![a, b]⟩ : Shape).size inb).emb y = y := by
    refine funext fun x => Fin.ext ?_
    match x with
    | ⟨0, _⟩ => show 0 + 1 * (y 0).val = (y 0).val; omega
    | ⟨1, _⟩ => show 0 + 1 * (y 1).val = (y 1).val; omega
  exact (congrArg _ he.symm).trans
    (View.canon_cons_emb (Rect.unit (s := ⟨2, ![a, b]⟩) ![0, 0] (⟨2, ![a, b]⟩ : Shape).size inb) w [] y)

/-- A rank-2 buffer read back whole. -/
theorem readCov_whole {a b : ℕ} (v : View sig .tc .vmem ⟨2, ![a, b]⟩ .f32)
    (L : List (View.Piece (Elt Ideal) ⟨2, ![a, b]⟩ .f32))
    (inb : ∀ x, (![0, 0] : Fin 2 → ℕ) x + (⟨2, ![a, b]⟩ : Shape).size x ≤ (⟨2, ![a, b]⟩ : Shape).size x) :
    v.readCov L (Rect.unit (s := ⟨2, ![a, b]⟩) ![0, 0] (⟨2, ![a, b]⟩ : Shape).size inb).toLoadRect = View.canon L := by
  rw [View.readCov_eq_canon']
  refine funext fun y => congrArg (View.canon L) (funext fun x => Fin.ext ?_)
  match x with
  | ⟨0, _⟩ => show 0 + 1 * (y 0).val = (y 0).val; omega
  | ⟨1, _⟩ => show 0 + 1 * (y 1).val = (y 1).val; omega

/-- A whole rank-2 buffer loaded whole. -/
theorem readAt_whole {a b : ℕ} (M : Memref sig .tc .vmem ⟨2, ![a, b]⟩ .f32) (h : M.IsWhole) (x : Vec Ideal ⟨2, ![a, b]⟩ .f32)
    (inb : ∀ x, (![0, 0] : Fin 2 → ℕ) x + (⟨2, ![a, b]⟩ : Shape).size x ≤ (⟨2, ![a, b]⟩ : Shape).size x) :
    View.readAt (Elt Ideal) M.view
      (Rect.unit (s := ⟨2, ![a, b]⟩) ![0, 0] (⟨2, ![a, b]⟩ : Shape).size inb).toLoadRect (h.unread x) = x := by
  funext y
  show M.view.read (Elt Ideal) (h.unread x) _ = _
  rw [h.read_unread]
  refine congrArg x (funext fun a => Fin.ext ?_)
  match a with
  | ⟨0, _⟩ => show 0 + 1 * (y 0).val = (y 0).val; omega
  | ⟨1, _⟩ => show 0 + 1 * (y 1).val = (y 1).val; omega

/-- One row of a buffer. -/
def rowVec {N : ℕ} (x : Vec Ideal (SRows N) .f32) (k : Fin N) : Row := fun y => x ((rowRect k).emb y)

/-- The label densities' store, from any list of writes to the target counters' buffer. -/
theorem outC7_aux (M4 : Memref sig .tc .vmem S3x1000 .f32) (h4 : M4.IsWhole) (M11 : Memref sig .tc .vmem S2x1000 .f32)
    (x3 : Vec Ideal S3x1000 .f32) (L : List (View.Piece (Elt Ideal) S2x1000 .f32)) (S : Vec Ideal S2x1000 .f32)
    (hs : S = View.canon L) :
    View.canon (Val := Elt Ideal) (e := .f32)
      [⟨Rect.unit (s := S3x1000) ![0, 0] S3x1000.size inb_S3x1000_S3x1000_0_0, k0_pay1661 (F := Ideal)
          (M11.view.readCov L (rowRect (0 : Fin 2)).toLoadRect) (M11.view.readCov L (rowRect (1 : Fin 2)).toLoadRect)
          k0_pay1660
          (View.readAt (Elt Ideal) M4.view (Rect.unit (s := S3x1000) ![0, 0] S3x1000.size inb_S3x1000_S3x1000_0_0).toLoadRect
            (h4.unread x3))⟩]
      = k0_pay1661 (rowVec S (0 : Fin 2)) (rowVec S (1 : Fin 2)) k0_pay1660 x3 := by
  subst hs
  refine (canon_whole _ _).trans ?_
  have h : ∀ r : Fin 2, M11.view.readCov L (rowRect r).toLoadRect = rowVec (View.canon L) r :=
    fun r => View.readCov_eq_canon' _ _ _
  exact congr (congrFun (congrArg₂ k0_pay1661 (h 0) (h 1)) k0_pay1660) (readAt_whole _ _ _ _)

section
variable (c : Dev nD) (i : grid0.Coords)
  (arg1 : Memref sig .tc .smem S10 .f32) (harg1 : arg1.IsWhole)
  (arg2 : Memref sig .tc .vmem S2048x1000 .f32) (harg2 : arg2.IsWhole)
  (arg3 : Memref sig .tc .vmem S2048x1000 .f32) (harg3 : arg3.IsWhole)
  (arg4 : Memref sig .tc .vmem S3x1000 .f32) (harg4 : arg4.IsWhole)
  (arg5 : Memref sig .tc .vmem S10x1 .f32) (harg5 : arg5.IsWhole)
  (arg6 : Memref sig .tc .vmem S1x1 .f32) (harg6 : arg6.IsWhole)
  (arg7 : Memref sig .tc .vmem S10x1 .f32) (harg7 : arg7.IsWhole)
  (arg8 : Memref sig .tc .vmem S3x1000 .f32) (harg8 : arg8.IsWhole)
  (arg9 : Memref sig .tc .vmem S1x1000 .f32) (harg9 : arg9.IsWhole)
  (arg10 : Memref sig .tc .vmem S9x1000 .f32) (harg10 : arg10.IsWhole)
  (arg11 : Memref sig .tc .vmem S2x1000 .f32) (harg11 : arg11.IsWhole)
  (x0 : Vec Ideal S10 .f32) (x1 x2 : Vec Ideal S2048x1000 .f32) (x3 : Vec Ideal S3x1000 .f32)
  (x4 : Vec Ideal S10x1 .f32) (hc0 : ¬cond0_0 i) (hc1 : cond0_1 i)
  (xs0 : Vec Ideal S1x1000 .f32) (xs1 : Vec Ideal S9x1000 .f32) (xs2 : Vec Ideal S2x1000 .f32)

/-- The loss output is the loss buffer summed up. -/
theorem outC5 : out0_C_5 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2
    = k0_pay1662 (sout0_C_0 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2) := by
  have hL : (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).1
      = [⟨Rect.unit (s := S1x1) ![0, 0] S1x1.size inb_S1x1_S1x1_0_0, k0_pay1662 (F := Ideal)
          (arg9.view.readCov (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.2.2.1
            (Rect.unit (s := S1x1000) ![0, 0] S1x1000.size inb_S1x1000_S1x1000_0_0).toLoadRect)⟩] := by
    delta kernelRun0_C kernelRun0_C.sl.v232
    dsimp only
  rw [out0_C_5, View.read_writes_junk_eq_canon, hL, sout0_C_0, View.read_writes_junk_eq_canon, readCov_whole]
  exact canon_whole _ _

/-- The gradient densities' output is computed from the distance counters. -/
theorem outC6 : out0_C_6 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2
    = k0_pay1659 (sout0_C_1 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2) x4 := by
  have hL : (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.1
      = [⟨Rect.unit (s := S10x1) ![0, 0] S10x1.size inb_S10x1_S10x1_0_0, k0_pay1659 (F := Ideal)
          (arg10.view.readCov (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.2.2.2.1
            (Rect.unit (s := S9x1000) ![0, 0] S9x1000.size inb_S9x1000_S9x1000_0_0).toLoadRect)
          (View.readAt (Elt Ideal) arg5.view (Rect.unit (s := S10x1) ![0, 0] S10x1.size inb_S10x1_S10x1_0_0).toLoadRect
            (harg5.unread x4))⟩] := rfl
  have hs : sout0_C_1 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2 = View.canon
      (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.2.2.2.1 :=
    View.read_writes_junk_eq_canon _ _
  have ho : out0_C_6 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2 = View.canon
      (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.1 :=
    View.read_writes_junk_eq_canon _ _
  refine (ho.trans (congrArg View.canon hL)).trans ?_
  rw [hs]
  generalize (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.2.2.2.1 = L
  refine (canon_whole _ _).trans ?_
  exact congrArg₂ k0_pay1659 (readCov_whole _ _ _) (readAt_whole _ _ _ _)

/-- The label densities' output is computed from the target counters. -/
theorem outC7 : out0_C_7 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2
    = k0_pay1661 (rowVec (sout0_C_2 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2) (0 : Fin 2))
        (rowVec (sout0_C_2 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2) (1 : Fin 2)) k0_pay1660 x3 := by
  have hL : (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.2.1
      = [⟨Rect.unit (s := S3x1000) ![0, 0] S3x1000.size inb_S3x1000_S3x1000_0_0, k0_pay1661 (F := Ideal)
          (arg11.view.readCov (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.2.2.2.2.1
            (rowRect (0 : Fin 2)).toLoadRect)
          (arg11.view.readCov (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.2.2.2.2.1
            (rowRect (1 : Fin 2)).toLoadRect) k0_pay1660
          (View.readAt (Elt Ideal) arg4.view (Rect.unit (s := S3x1000) ![0, 0] S3x1000.size inb_S3x1000_S3x1000_0_0).toLoadRect
            (harg4.unread x3))⟩] := by
    delta kernelRun0_C kernelRun0_C.sl.v198 kernelRun0_C.sl.v199 kernelRun0_C.sl.v165
    dsimp only
    rfl
  have hs : sout0_C_2 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2 = View.canon
      (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.2.2.2.2.1 :=
    View.read_writes_junk_eq_canon _ _
  have ho : out0_C_7 c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2 = View.canon
      (kernelRun0_C (F := Ideal) c i arg1 harg1 arg2 harg2 arg3 harg3 arg4 harg4 arg5 harg5 arg6 harg6 arg7 harg7 arg8
      harg8 arg9 harg9 arg10 harg10 arg11 harg11 hc0 hc1 x0 x1 x2 x3 x4 xs0 xs1 xs2).2.2.1 :=
    View.read_writes_junk_eq_canon _ _
  exact ho.trans ((congrArg View.canon hL).trans (outC7_aux arg4 harg4 arg11 x3 _ _ hs))

end

end Cert.KernelIdeal.Tile

end
-- ==== Proof.Steps.lean ====
/- The three scratch buffers after one grid step, read off the step's whole outcome. -/
module

public import proofs.«01_k».proof.Proof.Final

@[expose] public section

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen

/-- What a grid step leaves: the three outputs' blocks and the three scratch buffers. -/
abbrev Outcome : Type := Vec Ideal S1x1 .f32 × Vec Ideal S10x1 .f32 × Vec Ideal S3x1000 .f32
  × Vec Ideal S1x1000 .f32 × Vec Ideal S9x1000 .f32 × Vec Ideal S2x1000 .f32

variable (c : Dev nD) (i : grid0.Coords)
  (arg1 : Memref sig .tc .smem S10 .f32) (harg1 : arg1.IsWhole)
  (arg2 : Memref sig .tc .vmem S2048x1000 .f32) (harg2 : arg2.IsWhole)
  (arg3 : Memref sig .tc .vmem S2048x1000 .f32) (harg3 : arg3.IsWhole)
  (arg4 : Memref sig .tc .vmem S3x1000 .f32) (harg4 : arg4.IsWhole)
  (arg5 : Memref sig .tc .vmem S10x1 .f32) (harg5 : arg5.IsWhole)
  (arg6 : Memref sig .tc .vmem S1x1 .f32) (harg6 : arg6.IsWhole)
  (arg7 : Memref sig .tc .vmem S10x1 .f32) (harg7 : arg7.IsWhole)
  (arg8 : Memref sig .tc .vmem S3x1000 .f32) (harg8 : arg8.IsWhole)
  (arg9 : Memref sig .tc .vmem S1x1000 .f32) (harg9 : arg9.IsWhole)
  (arg10 : Memref sig .tc .vmem S9x1000 .f32) (harg10 : arg10.IsWhole)
  (arg11 : Memref sig .tc .vmem S2x1000 .f32) (harg11 : arg11.IsWhole)
  (x0 : Vec Ideal S10 .f32) (x1 x2 : Vec Ideal S2048x1000 .f32) (x3 : Vec Ideal S3x1000 .f32)
  (x4 : Vec Ideal S10x1 .f32)

/-- The first step's scratch buffers: its own sums. -/
theorem stepA (hc0 : cond0_0 i) (hc1 : ¬cond0_1 i) (o : Outcome)
    (ho : o = (out0_A_5 c i arg1 harg1 arg2 harg2 arg3 harg3 arg4 harg4 arg5 harg5 arg6 harg6 arg7 harg7 arg8
    harg8 arg9 harg9 arg10 harg10 arg11 harg11 hc0 hc1
        x0 x1 x2 x3 x4,
      out0_A_6 c i arg1 harg1 arg2 harg2 arg3 harg3 arg4 harg4 arg5 harg5 arg6 harg6 arg7 harg7 arg8
    harg8 arg9 harg9 arg10 harg10 arg11 harg11 hc0 hc1
        x0 x1 x2 x3 x4,
      out0_A_7 c i arg1 harg1 arg2 harg2 arg3 harg3 arg4 harg4 arg5 harg5 arg6 harg6 arg7 harg7 arg8
    harg8 arg9 harg9 arg10 harg10 arg11 harg11 hc0 hc1
        x0 x1 x2 x3 x4,
      sout0_A_0 c i arg1 harg1 arg2 harg2 arg3 harg3 arg4 harg4 arg5 harg5 arg6 harg6 arg7 harg7 arg8
    harg8 arg9 harg9 arg10 harg10 arg11 harg11 hc0 hc1
        x0 x1 x2 x3 x4,
      sout0_A_1 c i arg1 harg1 arg2 harg2 arg3 harg3 arg4 harg4 arg5 harg5 arg6 harg6 arg7 harg7 arg8
    harg8 arg9 harg9 arg10 harg10 arg11 harg11 hc0 hc1
        x0 x1 x2 x3 x4,
      sout0_A_2 c i arg1 harg1 arg2 harg2 arg3 harg3 arg4 harg4 arg5 harg5 arg6 harg6 arg7 harg7 arg8
    harg8 arg9 harg9 arg10 harg10 arg11 harg11 hc0 hc1
        x0 x1 x2 x3 x4)) :
    (∀ (r : Fin 1) l, o.2.2.2.1 (ix2 r l) = colSum (lossTerm x0 x3 l) x1 x2 l)
      ∧ (∀ (r : Fin 9) l, o.2.2.2.2.1 (ix2 r l) = colSum (gmTerm r) x1 x2 l)
      ∧ (∀ (r : Fin 2) l, o.2.2.2.2.2 (ix2 r l) = colSum (tpTerm r) x1 x2 l) := by
  subst ho; dsimp only
  exact ⟨fun r l => scrA0 c i arg1 harg1 arg2 harg2 arg3 harg3 arg4 harg4 arg5 harg5 arg6 harg6 arg7 harg7 arg8
    harg8 arg9 harg9 arg10 harg10 arg11 harg11 x0 x1 x2 x3 x4 hc0 hc1 r l,
    fun r l => scrA1 c i arg1 harg1 arg2 harg2 arg3 harg3 arg4 harg4 arg5 harg5 arg6 harg6 arg7 harg7 arg8
    harg8 arg9 harg9 arg10 harg10 arg11 harg11 x0 x1 x2 x3 x4 hc0 hc1 r l,
    fun r l => scrA2 c i arg1 harg1 arg2 harg2 arg3 harg3 arg4 harg4 arg5 harg5 arg6 harg6 arg7 harg7 arg8
    harg8 arg9 harg9 arg10 harg10 arg11 harg11 x0 x1 x2 x3 x4 hc0 hc1 r l⟩

/-- A middle step's scratch buffers: what was there and its own sums. -/
theorem stepB (hc0 : ¬cond0_0 i) (hc1 : ¬cond0_1 i)
    (xs0 : Vec Ideal S1x1000 .f32) (xs1 : Vec Ideal S9x1000 .f32) (xs2 : Vec Ideal S2x1000 .f32) (o : Outcome)
    (ho : o = (out0_B_5 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      out0_B_6 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      out0_B_7 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      sout0_B_0 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      sout0_B_1 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      sout0_B_2 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2)) :
    (∀ (r : Fin 1) l, o.2.2.2.1 (ix2 r l) = xs0 (ix2 r l) + colSum (lossTerm x0 x3 l) x1 x2 l)
      ∧ (∀ (r : Fin 9) l, o.2.2.2.2.1 (ix2 r l) = xs1 (ix2 r l) + colSum (gmTerm r) x1 x2 l)
      ∧ (∀ (r : Fin 2) l, o.2.2.2.2.2 (ix2 r l) = xs2 (ix2 r l) + colSum (tpTerm r) x1 x2 l) := by
  subst ho; dsimp only
  exact ⟨fun r l => scrB0 c i arg1 harg1 arg2 harg2 arg3 harg3 arg4 harg4 arg5 harg5 arg6 harg6 arg7 harg7 arg8
    harg8 arg9 harg9 arg10 harg10 arg11 harg11 x0 x1 x2 x3 x4 hc0 hc1 xs0 xs1 xs2 r l,
    fun r l => scrB1 c i arg1 harg1 arg2 harg2 arg3 harg3 arg4 harg4 arg5 harg5 arg6 harg6 arg7 harg7 arg8
    harg8 arg9 harg9 arg10 harg10 arg11 harg11 x0 x1 x2 x3 x4 hc0 hc1 xs0 xs1 xs2 r l,
    fun r l => scrB2 c i arg1 harg1 arg2 harg2 arg3 harg3 arg4 harg4 arg5 harg5 arg6 harg6 arg7 harg7 arg8
    harg8 arg9 harg9 arg10 harg10 arg11 harg11 x0 x1 x2 x3 x4 hc0 hc1 xs0 xs1 xs2 r l⟩

/-- The last step's scratch buffers: what was there and its own sums. -/
theorem stepC (hc0 : ¬cond0_0 i) (hc1 : cond0_1 i)
    (xs0 : Vec Ideal S1x1000 .f32) (xs1 : Vec Ideal S9x1000 .f32) (xs2 : Vec Ideal S2x1000 .f32) (o : Outcome)
    (ho : o = (out0_C_5 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      out0_C_6 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      out0_C_7 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      sout0_C_0 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      sout0_C_1 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      sout0_C_2 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2)) :
    (∀ (r : Fin 1) l, o.2.2.2.1 (ix2 r l) = xs0 (ix2 r l) + colSum (lossTerm x0 x3 l) x1 x2 l)
      ∧ (∀ (r : Fin 9) l, o.2.2.2.2.1 (ix2 r l) = xs1 (ix2 r l) + colSum (gmTerm r) x1 x2 l)
      ∧ (∀ (r : Fin 2) l, o.2.2.2.2.2 (ix2 r l) = xs2 (ix2 r l) + colSum (tpTerm r) x1 x2 l) := by
  subst ho; dsimp only
  exact ⟨fun r l => scrC0 c i arg1 harg1 arg2 harg2 arg3 harg3 arg4 harg4 arg5 harg5 arg6 harg6 arg7 harg7 arg8
    harg8 arg9 harg9 arg10 harg10 arg11 harg11 x0 x1 x2 x3 x4 hc0 hc1 xs0 xs1 xs2 r l,
    fun r l => scrC1 c i arg1 harg1 arg2 harg2 arg3 harg3 arg4 harg4 arg5 harg5 arg6 harg6 arg7 harg7 arg8
    harg8 arg9 harg9 arg10 harg10 arg11 harg11 x0 x1 x2 x3 x4 hc0 hc1 xs0 xs1 xs2 r l,
    fun r l => scrC2 c i arg1 harg1 arg2 harg2 arg3 harg3 arg4 harg4 arg5 harg5 arg6 harg6 arg7 harg7 arg8
    harg8 arg9 harg9 arg10 harg10 arg11 harg11 x0 x1 x2 x3 x4 hc0 hc1 xs0 xs1 xs2 r l⟩

/-- The last step's outputs, from the scratch buffers it leaves. -/
theorem lastOut (hc0 : ¬cond0_0 i) (hc1 : cond0_1 i)
    (xs0 : Vec Ideal S1x1000 .f32) (xs1 : Vec Ideal S9x1000 .f32) (xs2 : Vec Ideal S2x1000 .f32) (o : Outcome)
    (ho : o = (out0_C_5 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      out0_C_6 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      out0_C_7 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      sout0_C_0 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      sout0_C_1 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2,
      sout0_C_2 c i arg1 harg1 arg2 harg2 arg3 harg3 arg4 harg4 arg5 harg5 arg6 harg6 arg7 harg7 arg8
    harg8 arg9 harg9 arg10 harg10 arg11 harg11 hc0 hc1
        x0 x1 x2 x3 x4 xs0 xs1 xs2)) :
    o.1 = k0_pay1662 (F := Ideal) o.2.2.2.1 ∧ o.2.1 = k0_pay1659 (F := Ideal) o.2.2.2.2.1 x4
      ∧ o.2.2.1 = k0_pay1661 (F := Ideal) (rowVec o.2.2.2.2.2 (0 : Fin 2)) (rowVec o.2.2.2.2.2 (1 : Fin 2)) k0_pay1660 x3 := by
  subst ho; dsimp only
  exact ⟨outC5 c i arg1 harg1 arg2 harg2 arg3 harg3 arg4 harg4 arg5 harg5 arg6 harg6 arg7 harg7 arg8
    harg8 arg9 harg9 arg10 harg10 arg11 harg11 x0 x1 x2 x3 x4 hc0 hc1 xs0 xs1 xs2,
    outC6 c i arg1 harg1 arg2 harg2 arg3 harg3 arg4 harg4 arg5 harg5 arg6 harg6 arg7 harg7 arg8
    harg8 arg9 harg9 arg10 harg10 arg11 harg11 x0 x1 x2 x3 x4 hc0 hc1 xs0 xs1 xs2,
    outC7 c i arg1 harg1 arg2 harg2 arg3 harg3 arg4 harg4 arg5 harg5 arg6 harg6 arg7 harg7 arg8
    harg8 arg9 harg9 arg10 harg10 arg11 harg11 x0 x1 x2 x3 x4 hc0 hc1 xs0 xs1 xs2⟩

end Cert.KernelIdeal.Tile
-- ==== Proof.Blocks.lean ====
/- What each grid step reads: whole buffers, and the step's 2048 rows of the two big arrays. -/
module

public import proofs.«01_k».proof.Proof.Steps

@[expose] public section

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The two big arrays at the start of the grid. -/
abbrev bigX (c : Dev nD) : Vec Ideal S16384x1000 .f32 := V m c main_arg0
@[inherit_doc bigX] abbrev bigT (c : Dev nD) : Vec Ideal S16384x1000 .f32 := V m c main_arg1
/-- The distance densities, as a list and as a column, and the label densities by class, at the start of the grid. -/
abbrev gdL (c : Dev nD) : Vec Ideal S10 .f32 := V m c main_arg3
@[inherit_doc gdL] abbrev gdC (c : Dev nD) : Vec Ideal S10x1 .f32 := V m c main_v2
@[inherit_doc gdL] abbrev ltC (c : Dev nD) : Vec Ideal S3x1000 .f32 := V m c main_v1

/-- A grid point as a number below eight. -/
abbrev pt (t : Fin cfg0.N) : Fin 8 := t.cast N_0

/-- The step's place along the big arrays' rows. -/
theorem index_big : ∀ t : Fin cfg0.N, win0_1.index t 0 = t.val ∧ win0_1.index t 1 = 0 ∧ win0_2.index t 0 = t.val ∧ win0_2.index t 1 = 0 := by
  decide +kernel

/-- Row `r` of step `t`'s block of the first big array is that array's row `2048 t + r`. -/
theorem iblk1_apply (c : Dev nD) (t : Fin cfg0.N) (r : Fin 2048) (l : Fin 1000) :
    (iblk m c 1 t : Vec Ideal S2048x1000 .f32) (ix2 r l) = bigX m c (ix2 (finProdFinEquiv (pt t, r) : Fin (8 * 2048)) l) := by
  show V m c main_arg0 ((win0_1.rect t).emb (ix2 r l)) = _
  refine congrArg _ (funext fun x => Fin.ext ?_)
  match x with
  | ⟨0, _⟩ =>
    refine (Pipeline.Window.rect_emb_val win0_1 t (ix2 r l) 0).trans ?_
    rw [(index_big t).1]
    show t.val * 2048 + r.val = r.val + 2048 * t.val
    omega
  | ⟨1, _⟩ =>
    refine (Pipeline.Window.rect_emb_val win0_1 t (ix2 r l) 1).trans ?_
    rw [(index_big t).2.1]
    show 0 * 1000 + l.val = l.val
    omega

/-- Row `r` of step `t`'s block of the second big array is that array's row `2048 t + r`. -/
theorem iblk2_apply (c : Dev nD) (t : Fin cfg0.N) (r : Fin 2048) (l : Fin 1000) :
    (iblk m c 2 t : Vec Ideal S2048x1000 .f32) (ix2 r l) = bigT m c (ix2 (finProdFinEquiv (pt t, r) : Fin (8 * 2048)) l) := by
  show V m c main_arg1 ((win0_2.rect t).emb (ix2 r l)) = _
  refine congrArg _ (funext fun x => Fin.ext ?_)
  match x with
  | ⟨0, _⟩ =>
    refine (Pipeline.Window.rect_emb_val win0_2 t (ix2 r l) 0).trans ?_
    rw [(index_big t).2.2.1]
    show t.val * 2048 + r.val = r.val + 2048 * t.val
    omega
  | ⟨1, _⟩ =>
    refine (Pipeline.Window.rect_emb_val win0_2 t (ix2 r l) 1).trans ?_
    rw [(index_big t).2.2.2]
    show 0 * 1000 + l.val = l.val
    omega

/-- The small arrays' blocks start at the arrays' corners. -/
theorem index_small : ∀ t : Fin cfg0.N, win0_0.index t 0 = 0 ∧ (∀ a, win0_3.index t a = 0) ∧ (∀ a, win0_4.index t a = 0)
    ∧ (∀ a, win0_5.index t a = 0) ∧ (∀ a, win0_6.index t a = 0) ∧ (∀ a, win0_7.index t a = 0) := by
  decide +kernel

/-- Every step sees the whole list of distance densities. -/
theorem iblk0_eq (c : Dev nD) (t : Fin cfg0.N) : (iblk m c 0 t : Vec Ideal S10 .f32) = gdL m c := by
  funext y
  show V m c main_arg3 ((win0_0.rect t).emb y) = V m c main_arg3 y
  refine congrArg _ (funext fun x => Fin.ext ?_)
  match x with
  | ⟨0, _⟩ => exact Pipeline.Window.rect_emb_val_of_index_zero win0_0 t 0 (index_small t).1 y

/-- Every step sees the whole table of label densities. -/
theorem iblk3_eq (c : Dev nD) (t : Fin cfg0.N) : (iblk m c 3 t : Vec Ideal S3x1000 .f32) = ltC m c := by
  funext y
  show V m c main_v1 ((win0_3.rect t).emb y) = V m c main_v1 y
  exact congrArg _ (funext fun x => Fin.ext
    (Pipeline.Window.rect_emb_val_of_index_zero win0_3 t x ((index_small t).2.1 x) y))

/-- Every step sees the whole column of distance densities. -/
theorem iblk4_eq (c : Dev nD) (t : Fin cfg0.N) : (iblk m c 4 t : Vec Ideal S10x1 .f32) = gdC m c := by
  funext y
  show V m c main_v2 ((win0_4.rect t).emb y) = V m c main_v2 y
  exact congrArg _ (funext fun x => Fin.ext
    (Pipeline.Window.rect_emb_val_of_index_zero win0_4 t x ((index_small t).2.2.1 x) y))

/-- What step `t` adds in lane `l`: the sum of `f` over its rows. -/
theorem colSum_iblk (f : EReal → EReal → EReal) (c : Dev nD) (t : Fin cfg0.N) (l : Fin 1000) :
    colSum f (iblk m c 1 t) (iblk m c 2 t) l
      = ∑ r : Fin 2048, f (bigX m c (ix2 (finProdFinEquiv (pt t, r) : Fin (8 * 2048)) l))
          (bigT m c (ix2 (finProdFinEquiv (pt t, r) : Fin (8 * 2048)) l)) :=
  Finset.sum_congr rfl fun r _ => by rw [← iblk1_apply, ← iblk2_apply]

/-- The last step. -/
def tLast : Fin cfg0.N := ⟨7, lt_of_lt_of_eq (by norm_num) (show cfg0.N = 8 from N_0).symm⟩

/-- Only the last step writes the outputs back. -/
theorem eq_tLast (t : Fin cfg0.N) (h : t.val % 8 = 7) : t = tLast := by
  have hN : t.val < 8 := lt_of_lt_of_eq t.isLt (show cfg0.N = 8 from N_0)
  refine Fin.ext ?_
  show t.val = 7
  omega

/-- The loss array ends as the last step leaves it. -/
theorem arr5 (c : Dev nD) : (dats m 0 c).arrAt 5 cfg0.N = (outsAt0 m c tLast.val tLast.isLt).1 := by
  have hb : ∀ (t : Fin cfg0.N) (G : Vec Ideal S1x1 .f32),
      ((cfg0.win 5).blk t).view.read (Elt Ideal) G = G := fun t G => by
    funext y
    show G ((win0_5.rect t).emb y) = G y
    exact congrArg G (funext fun x => Fin.ext
      (Pipeline.Window.rect_emb_val_of_index_zero win0_5 t x ((index_small t).2.2.2.1 x) y))
  refine (dats m 0 c).arrAt_eq_of_cover 5 _ (fun t hf => ?_) (fun i => ⟨tLast, (flush0_5 tLast).mpr (by decide), ?_⟩)
  · have ht := eq_tLast t ((flush0_5 t).mp hf)
    subst ht
    exact (after0_5 m c tLast).trans (hb tLast _).symm
  · have hi : (win0_5.rect tLast).emb i = i := funext fun x => Fin.ext
      (Pipeline.Window.rect_emb_val_of_index_zero win0_5 tLast x ((index_small tLast).2.2.2.1 x) i)
    have := ((cfg0.win 5).blk tLast).view.emb_mem_set i
    exact hi ▸ this

/-- The distance-density array ends as the last step leaves it. -/
theorem arr6 (c : Dev nD) : (dats m 0 c).arrAt 6 cfg0.N = (outsAt0 m c tLast.val tLast.isLt).2.1 := by
  have hb : ∀ (t : Fin cfg0.N) (G : Vec Ideal S10x1 .f32),
      ((cfg0.win 6).blk t).view.read (Elt Ideal) G = G := fun t G => by
    funext y
    show G ((win0_6.rect t).emb y) = G y
    exact congrArg G (funext fun x => Fin.ext
      (Pipeline.Window.rect_emb_val_of_index_zero win0_6 t x ((index_small t).2.2.2.2.1 x) y))
  refine (dats m 0 c).arrAt_eq_of_cover 6 _ (fun t hf => ?_) (fun i => ⟨tLast, (flush0_6 tLast).mpr (by decide), ?_⟩)
  · have ht := eq_tLast t ((flush0_6 t).mp hf)
    subst ht
    exact (after0_6 m c tLast).trans (hb tLast _).symm
  · have hi : (win0_6.rect tLast).emb i = i := funext fun x => Fin.ext
      (Pipeline.Window.rect_emb_val_of_index_zero win0_6 tLast x ((index_small tLast).2.2.2.2.1 x) i)
    have := ((cfg0.win 6).blk tLast).view.emb_mem_set i
    exact hi ▸ this

/-- The label-density array ends as the last step leaves it. -/
theorem arr7 (c : Dev nD) : (dats m 0 c).arrAt 7 cfg0.N = (outsAt0 m c tLast.val tLast.isLt).2.2.1 := by
  have hb : ∀ (t : Fin cfg0.N) (G : Vec Ideal S3x1000 .f32),
      ((cfg0.win 7).blk t).view.read (Elt Ideal) G = G := fun t G => by
    funext y
    show G ((win0_7.rect t).emb y) = G y
    exact congrArg G (funext fun x => Fin.ext
      (Pipeline.Window.rect_emb_val_of_index_zero win0_7 t x ((index_small t).2.2.2.2.2 x) y))
  refine (dats m 0 c).arrAt_eq_of_cover 7 _ (fun t hf => ?_) (fun i => ⟨tLast, (flush0_7 tLast).mpr (by decide), ?_⟩)
  · have ht := eq_tLast t ((flush0_7 t).mp hf)
    subst ht
    exact (after0_7 m c tLast).trans (hb tLast _).symm
  · have hi : (win0_7.rect tLast).emb i = i := funext fun x => Fin.ext
      (Pipeline.Window.rect_emb_val_of_index_zero win0_7 tLast x ((index_small tLast).2.2.2.2.2 x) i)
    have := ((cfg0.win 7).blk tLast).view.emb_mem_set i
    exact hi ▸ this

end Cert.KernelIdeal.Tile
-- ==== Proof.Acc.lean ====
/- The three scratch buffers after the whole grid, and so the kernel's three output arrays. -/
module

public import proofs.«01_k».proof.Proof.Blocks

@[expose] public section

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The sum of `f` over the 2048 rows of block `u`, in lane `l`. -/
def blockSum (f : EReal → EReal → EReal) (c : Dev nD) (l : Fin 1000) (u : Fin 8) : EReal :=
  ∑ r : Fin 2048, f (bigX m c (ix2 (finProdFinEquiv (u, r) : Fin (8 * 2048)) l))
    (bigT m c (ix2 (finProdFinEquiv (u, r) : Fin (8 * 2048)) l))

/-- The sum of `f` over all rows, in lane `l`. -/
def laneSum (f : EReal → EReal → EReal) (c : Dev nD) (l : Fin 1000) : EReal :=
  ∑ r : Fin 16384, f (bigX m c (ix2 r l)) (bigT m c (ix2 r l))

/-- The eight blocks' sums make up the lane's sum. -/
theorem sum_blockSum (f : EReal → EReal → EReal) (c : Dev nD) (l : Fin 1000) :
    ∑ u, blockSum m f c l u = laneSum m f c l :=
  (sum_split 8 2048 (fun r : Fin (8 * 2048) => f (bigX m c (ix2 r l)) (bigT m c (ix2 r l)))).symm

/-- Block `u`'s sum, for any natural number `u`. -/
def blockSumN (f : EReal → EReal → EReal) (c : Dev nD) (l : Fin 1000) (u : ℕ) : EReal :=
  if h : u < 8 then blockSum m f c l ⟨u, h⟩ else 0

/-- What a grid step adds is its block's sum. -/
theorem colSum_eq (f : EReal → EReal → EReal) (c : Dev nD) (t : Fin cfg0.N) (l : Fin 1000) :
    colSum f (iblk m c 1 t) (iblk m c 2 t) l = blockSumN m f c l t.val := by
  have hN : t.val < 8 := lt_of_lt_of_eq t.isLt (show cfg0.N = 8 from N_0)
  rw [colSum_iblk, blockSumN, dif_pos hN]
  rfl

/-- A quantity that starts at block 0's sum and gains each next block's sum ends at the lane's sum. -/
theorem acc_of (f : EReal → EReal → EReal) (c : Dev nD) (l : Fin 1000) (g : (n : ℕ) → n < cfg0.N → EReal)
    (h0 : ∀ hn, g 0 hn = blockSumN m f c l 0)
    (hs : ∀ n hn, g (n + 1) hn = g n (Nat.lt_of_succ_lt hn) + blockSumN m f c l (n + 1)) (t : Fin cfg0.N) (ht : t.val = 7) :
    g t.val t.isLt = laneSum m f c l := by
  have h : ∀ n hn, g n hn = ∑ u ∈ Finset.range (n + 1), blockSumN m f c l u := by
    intro n
    induction n with
    | zero => intro hn; rw [h0, Finset.sum_range_one]
    | succ n ih => intro hn; rw [hs, ih, Finset.sum_range_succ _ (n + 1)]
  rw [h, ht, Finset.sum_range, ← sum_blockSum]
  exact Finset.sum_congr rfl fun u _ => dif_pos u.isLt

/-- The last step's number. -/
theorem tLast_val : (tLast : Fin cfg0.N).val = 7 := rfl

/-- The scratch buffers after the grid: the lane sums of the losses and of the two families of counters. -/
theorem acc (c : Dev nD) (l : Fin 1000) :
    (outsAt0 m c tLast.val tLast.isLt).2.2.2.1 (ix2 0 l) = laneSum m (lossTerm (gdL m c) (ltC m c) l) c l
      ∧ (∀ r : Fin 9, (outsAt0 m c tLast.val tLast.isLt).2.2.2.2.1 (ix2 r l) = laneSum m (gmTerm r) c l)
      ∧ (∀ r : Fin 2, (outsAt0 m c tLast.val tLast.isLt).2.2.2.2.2 (ix2 r l) = laneSum m (tpTerm r) c l) := by
  have hfirst : ∀ t : Fin cfg0.N, ∀ (h0 : t.val % 8 = 0) (h1 : ¬t.val % 8 = 7), _ := fun t h0 h1 =>
    stepA _ _ _ _ _ _ _ _ _ _ _ _ _ _ _ _ _ _ _ _ _ _ _ _ _ _ _ _ _ _ _ _ (outsAt0_A m c t h0 h1)
  have hmid : ∀ t : Fin cfg0.N, ∀ (h0 : ¬t.val % 8 = 0) (h1 : ¬t.val % 8 = 7), _ := fun t h0 h1 =>
    stepB _ _ _ _ _ _ _ _ _ _ _ _ _ _ _ _ _ _ _ _ _ _ _ _ _ _ _ _ _ _ _ _ _ _ _ (outsAt0_B m c t h0 h1)
  have hlast : ∀ t : Fin cfg0.N, ∀ (h0 : ¬t.val % 8 = 0) (h1 : t.val % 8 = 7), _ := fun t h0 h1 =>
    stepC _ _ _ _ _ _ _ _ _ _ _ _ _ _ _ _ _ _ _ _ _ _ _ _ _ _ _ _ _ _ _ _ _ _ _ (outsAt0_C m c t h0 h1)
  simp only [iblk0_eq, iblk3_eq, colSum_eq] at hfirst hmid hlast
  have h0 : ∀ n, n + 1 < cfg0.N → ¬(n + 1) % 8 = 0 := fun n hn => by
    have hN : n + 1 < 8 := lt_of_lt_of_eq hn (show cfg0.N = 8 from N_0)
    omega
  refine ⟨acc_of m _ c l (fun n hn => (outsAt0 m c n hn).2.2.2.1 (ix2 0 l))
      (fun hn => (hfirst ⟨0, hn⟩ rfl (show ¬0 % 8 = 7 by decide)).1 0 l) (fun n hn => ?_) tLast tLast_val,
    fun r => acc_of m _ c l (fun n hn => (outsAt0 m c n hn).2.2.2.2.1 (ix2 r l))
      (fun hn => (hfirst ⟨0, hn⟩ rfl (show ¬0 % 8 = 7 by decide)).2.1 r l) (fun n hn => ?_) tLast tLast_val,
    fun r => acc_of m _ c l (fun n hn => (outsAt0 m c n hn).2.2.2.2.2 (ix2 r l))
      (fun hn => (hfirst ⟨0, hn⟩ rfl (show ¬0 % 8 = 7 by decide)).2.2 r l) (fun n hn => ?_) tLast tLast_val⟩
  all_goals by_cases h1 : (n + 1) % 8 = 7
  · exact (hlast ⟨n + 1, hn⟩ (h0 n hn) h1).1 0 l
  · exact (hmid ⟨n + 1, hn⟩ (h0 n hn) h1).1 0 l
  · exact (hlast ⟨n + 1, hn⟩ (h0 n hn) h1).2.1 r l
  · exact (hmid ⟨n + 1, hn⟩ (h0 n hn) h1).2.1 r l
  · exact (hlast ⟨n + 1, hn⟩ (h0 n hn) h1).2.2 r l
  · exact (hmid ⟨n + 1, hn⟩ (h0 n hn) h1).2.2 r l

/-- The three output arrays after the grid. -/
theorem fin567 (c : Dev nD) :
    (dats m 0 c).arrAt 5 cfg0.N = k0_pay1662 (F := Ideal) (outsAt0 m c tLast.val tLast.isLt).2.2.2.1
      ∧ (dats m 0 c).arrAt 6 cfg0.N = k0_pay1659 (F := Ideal) (outsAt0 m c tLast.val tLast.isLt).2.2.2.2.1 (gdC m c)
      ∧ (dats m 0 c).arrAt 7 cfg0.N = k0_pay1661 (F := Ideal) (rowVec (outsAt0 m c tLast.val tLast.isLt).2.2.2.2.2 (0 : Fin 2))
        (rowVec (outsAt0 m c tLast.val tLast.isLt).2.2.2.2.2 (1 : Fin 2)) k0_pay1660 (ltC m c) := by
  have h := lastOut _ _ _ _ _ _ _ _ _ _ _ _ _ _ _ _ _ _ _ _ _ _ _ _ _ _ _ _ _ _ _ _ _ _ _ (outsAt0_C m c tLast (by decide) (by decide))
  rw [iblk3_eq, iblk4_eq] at h
  exact ⟨(arr5 m c).trans h.1, (arr6 m c).trans h.2.1, (arr7 m c).trans h.2.2⟩

end Cert.KernelIdeal.Tile
-- ==== Proof.Tail.lean ====
/- The host's part: what the kernel is given, and what becomes of its three output arrays. -/
module

public import proofs.«01_k».proof.Proof.Acc
public import Idealize.ShloMosaic.Lib.StableHlo.Run

@[expose] public section

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen

/-- What the operations before the grid leave where they write: the label densities by class, and the distance
    densities as a column. -/
theorem before_v1 (W : Valuation τ sig (Elt Ideal)) :
    StableHlo.after (List.flatten [hostOps0]) W (Proc.devRef .tc main_v1)
      = transpose S3x1000 [1, 0] (shapeCast S1000x3 (W (Proc.devRef .tc main_arg4) : Vec Ideal S3000 .f32) shapeCasts_S3000_S1000x3)
          transposes_S1000x3_S3x1000_1_0 := by
  simp only [List.flatten_cons, List.flatten_nil, List.append_nil, StableHlo.after_cons, StableHlo.after_nil]
  rw [StableHlo.reshape_result_ne _ _ _ _ _ (by decide), StableHlo.unary_result, StableHlo.reshape_result]
  · rfl
  all_goals decide

@[inherit_doc before_v1] theorem before_v2 (W : Valuation τ sig (Elt Ideal)) :
    StableHlo.after (List.flatten [hostOps0]) W (Proc.devRef .tc main_v2)
      = shapeCast S10x1 (W (Proc.devRef .tc main_arg3) : Vec Ideal S10 .f32) shapeCasts_S10_S10x1 := by
  simp only [List.flatten_cons, List.flatten_nil, List.append_nil, StableHlo.after_cons, StableHlo.after_nil]
  rw [StableHlo.reshape_result, StableHlo.unary_result_ne _ _ _ _ (by decide), StableHlo.reshape_result_ne _ _ _ _ _ (by decide)]
  · rfl
  all_goals decide

/-- The operations before the grid write none of the arguments. -/
theorem before_arg (W : Valuation τ sig (Elt Ideal)) (r : Ref sig .tc) (h : r ∉ [main_v0, main_v1, main_v2]) :
    StableHlo.after (List.flatten [hostOps0]) W (Proc.devRef .tc r) = W (Proc.devRef .tc r) := by
  simp only [List.mem_cons, List.not_mem_nil, or_false, not_or] at h
  simp only [List.flatten_cons, List.flatten_nil, List.append_nil, StableHlo.after_cons, StableHlo.after_nil]
  rw [StableHlo.reshape_result_ne (h := h.2.2), StableHlo.unary_result_ne (h := h.2.1),
    StableHlo.reshape_result_ne (h := h.1)]

/-- What the operations after the grid leave in the three results. -/
theorem after_v4 (W : Valuation τ sig (Elt Ideal)) :
    StableHlo.after (List.flatten [hostOps1]) W (Proc.devRef .tc main_v4)
      = shapeCast S_ (W (Proc.devRef .tc main_v3_0) : Vec Ideal S1x1 .f32) shapeCasts_S1x1_S_ := by
  simp only [List.flatten_cons, List.flatten_nil, List.append_nil, StableHlo.after_cons, StableHlo.after_nil]
  rw [StableHlo.reshape_result_ne _ _ _ _ _ (by decide), StableHlo.unary_result_ne _ _ _ _ (by decide),
    StableHlo.reshape_result_ne _ _ _ _ _ (by decide), StableHlo.reshape_result]
  · rfl
  all_goals decide

@[inherit_doc after_v4] theorem after_v5 (W : Valuation τ sig (Elt Ideal)) :
    StableHlo.after (List.flatten [hostOps1]) W (Proc.devRef .tc main_v5)
      = shapeCast S10 (W (Proc.devRef .tc main_v3_1) : Vec Ideal S10x1 .f32) shapeCasts_S10x1_S10 := by
  simp only [List.flatten_cons, List.flatten_nil, List.append_nil, StableHlo.after_cons, StableHlo.after_nil]
  rw [StableHlo.reshape_result_ne _ _ _ _ _ (by decide), StableHlo.unary_result_ne _ _ _ _ (by decide),
    StableHlo.reshape_result, StableHlo.reshape_result_ne _ _ _ _ _ (by decide)]
  · rfl
  all_goals decide

@[inherit_doc after_v4] theorem after_v7 (W : Valuation τ sig (Elt Ideal)) :
    StableHlo.after (List.flatten [hostOps1]) W (Proc.devRef .tc main_v7)
      = shapeCast S3000 (transpose S1000x3 [1, 0] (W (Proc.devRef .tc main_v3_2) : Vec Ideal S3x1000 .f32) transposes_S3x1000_S1000x3_1_0)
          shapeCasts_S1000x3_S3000 := by
  simp only [List.flatten_cons, List.flatten_nil, List.append_nil, StableHlo.after_cons, StableHlo.after_nil]
  rw [StableHlo.reshape_result, StableHlo.unary_result, StableHlo.reshape_result_ne _ _ _ _ _ (by decide),
    StableHlo.reshape_result_ne _ _ _ _ _ (by decide)]
  · rfl
  all_goals decide

variable (m : (ℓ : Loc nD τ sig) → Buf (Elt Ideal) ℓ) (ρ : Dev nD → PrngReg)

/-- The grid starts from the arguments as given. -/
theorem bigX_eq (c : Dev nD) : bigX m c = m ((c.tc : Thread nD τ).loc main_arg0) := before_arg _ main_arg0 (by decide)
@[inherit_doc bigX_eq] theorem bigT_eq (c : Dev nD) : bigT m c = m ((c.tc : Thread nD τ).loc main_arg1) := before_arg _ main_arg1 (by decide)
@[inherit_doc bigX_eq] theorem gdL_eq (c : Dev nD) : gdL m c = m ((c.tc : Thread nD τ).loc main_arg3) := before_arg _ main_arg3 (by decide)

/-- The column of distance densities is their list. -/
theorem gdC_apply (c : Dev nD) (k : Fin 10) :
    gdC m c (ix2 k 0) = (m ((c.tc : Thread nD τ).loc main_arg3) : Vec Ideal S10 .f32) (ix1 k) := by
  refine (congrFun (before_v2 fun b => m (c, b)) (ix2 k 0)).trans ?_
  refine shapeCast_apply _ _ _ _ ?_
  refine (Shape.rowMajor_val_one _).trans ?_
  rw [Shape.rowMajor_val_two]
  show k.val = k.val * 1 + 0
  omega

/-- The table of label densities holds class `c`'s bin `j` at row `j`, lane `c`. -/
theorem ltC_apply (c : Dev nD) (j : Fin 3) (l : Fin 1000) :
    ltC m c (ix2 j l) = (m ((c.tc : Thread nD τ).loc main_arg4) : Vec Ideal S3000 .f32) (ix1 (finProdFinEquiv (l, j) : Fin (1000 * 3))) := by
  refine (congrFun (before_v1 fun b => m (c, b)) (ix2 j l)).trans ?_
  refine (transpose_ix2_apply _ _ _ _).trans ?_
  refine shapeCast_apply _ _ _ _ ?_
  refine (Shape.rowMajor_val_one _).trans ?_
  rw [Shape.rowMajor_val_two]
  show j.val + 3 * l.val = l.val * 3 + j.val
  omega

/-- The kernel's three results, from its output arrays. -/
def kOut0 (c : Dev nD) : Vec Ideal S_ .f32 := shapeCast S_ ((dats m 0 c).arrAt 5 cfg0.N : Vec Ideal S1x1 .f32) shapeCasts_S1x1_S_
@[inherit_doc kOut0] def kOut1 (c : Dev nD) : Vec Ideal S10 .f32 := shapeCast S10 ((dats m 0 c).arrAt 6 cfg0.N : Vec Ideal S10x1 .f32) shapeCasts_S10x1_S10
@[inherit_doc kOut0] def kOut2 (c : Dev nD) : Vec Ideal S3000 .f32 :=
  shapeCast S3000 (transpose S1000x3 [1, 0] ((dats m 0 c).arrAt 7 cfg0.N : Vec Ideal S3x1000 .f32) transposes_S3x1000_S1000x3_1_0)
    shapeCasts_S1000x3_S3000

/-- The kernel's run ends with its three results, the arguments unchanged. -/
theorem run_values : θ_run defs (onTc (τ := τ) (main (F := Ideal))) ⟨m, fun _ => 0, ρ⟩ (fun r => ∀ c : Dev nD,
      (r.2.mem ((c.tc : Thread nD τ).loc main_v4) = kOut0 m c
        ∧ r.2.mem ((c.tc : Thread nD τ).loc main_v5) = kOut1 m c
        ∧ r.2.mem ((c.tc : Thread nD τ).loc main_v7) = kOut2 m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) := by
  have hv : θ_run defs (onTc (τ := τ) (main (F := Ideal))) ⟨m, fun _ => 0, ρ⟩ (fun r => ∀ c : Dev nD,
      r.2.mem ((c.tc : Thread nD τ).loc main_v4) = kOut0 m c
        ∧ r.2.mem ((c.tc : Thread nD τ).loc main_v5) = kOut1 m c
        ∧ r.2.mem ((c.tc : Thread nD τ).loc main_v7) = kOut2 m c) := by
    refine (θ_run defs _ _).mono (fun r h c => ?_) (run_main m ρ)
    have harr : ∀ w, Pipeline.withArrays spec0 c (V0 m c) (fun w => (dats m 0 c).arrAt w cfg0.N)
        (Proc.devRef .tc (Pipeline.arrRef spec0 w)) = (dats m 0 c).arrAt w cfg0.N := fun w =>
      Pipeline.withArrays_arr spec0 (winFacts0.arr_inj) c (V0 m c) _ w
    refine ⟨((h c).2 main_v4 (Pipeline.mem_restRefs_of _ (by decide) (by decide))).trans ?_,
      ((h c).2 main_v5 (Pipeline.mem_restRefs_of _ (by decide) (by decide))).trans ?_,
      ((h c).2 main_v7 (Pipeline.mem_restRefs_of _ (by decide) (by decide))).trans ?_⟩
    · exact (after_v4 _).trans (congrArg (fun x : Vec Ideal S1x1 .f32 => shapeCast S_ x shapeCasts_S1x1_S_) (harr 5))
    · exact (after_v5 _).trans (congrArg (fun x : Vec Ideal S10x1 .f32 => shapeCast S10 x shapeCasts_S10x1_S10) (harr 6))
    · exact (after_v7 _).trans (congrArg (fun x : Vec Ideal S3x1000 .f32 => shapeCast S3000
        (transpose S1000x3 [1, 0] x transposes_S3x1000_S1000x3_1_0) shapeCasts_S1000x3_S3000) (harr 7))
  exact (θ_run defs _ _).mono (fun _ h c => ⟨h.1 c, h.2 c⟩) (θ_run_and hv (unchanged m ρ))

end Cert.KernelIdeal.Tile
-- ==== Proof.Bins.lean ====
module

public import proofs.«01_k».proof.Proof.Scalar
public import Idealize.ShloMosaic.Lib.Routing.OpsPair

@[expose] public section

set_option maxRecDepth 16384

/-!
# Bins, probabilities and weights of one element

What the kernel reads off by comparisons with thresholds, the reference reads off by rounding down.
This module holds the arithmetic of one element on which both agree.
-/

noncomputable section

namespace Cert.KernelIdeal.Tile

open Idealize.ShloMosaic Idealize.ShloMosaic.TcCoe Idealize.ShloMosaic.ValueIdx

/-- The bin of `d ∈ [0, 1]` among `N` equal ones; the last is closed. -/
def bin (N : ℕ) [NeZero N] (d : ℝ) : Fin N :=
  ⟨min ⌊d * N⌋₊ (N - 1), by have := NeZero.pos N; omega⟩

/-- The bin lies at or above `k` just when `d` is at least `k / N`. -/
theorem le_bin (N : ℕ) [NeZero N] (k : ℕ) (hk : k < N) (d : ℝ) (h0 : 0 ≤ d) :
    (k : ℝ) / N ≤ d ↔ k ≤ (bin N d).val := by
  have hN : (0 : ℝ) < N := by exact_mod_cast NeZero.pos N
  show _ ↔ k ≤ min ⌊d * N⌋₊ (N - 1)
  rw [div_le_iff₀ hN, le_min_iff, Nat.le_floor_iff (by positivity)]
  exact ⟨fun h => ⟨h, by omega⟩, fun h => h.1⟩

/-- A threshold in tenths is passed just when the bin reaches it. -/
theorem tenth_le (k : ℕ) (hk : k < 10) (d : ℝ) (h0 : 0 ≤ d) :
    tenth k ≤ (d : EReal) ↔ k ≤ (bin 10 d).val := by
  rw [← le_bin 10 k hk d h0, tenth, EReal.coe_le_coe_iff]; norm_num

/-- A threshold in thirds is passed just when the bin reaches it. -/
theorem third_le (k : ℕ) (hk : k < 3) (d : ℝ) (h0 : 0 ≤ d) :
    third k ≤ (d : EReal) ↔ k ≤ (bin 3 d).val := by
  rw [← le_bin 3 k hk d h0, third, EReal.coe_le_coe_iff]; norm_num

/-- The tree of comparisons picks the gradient's bin. -/
theorem gwS_bin (g : Fin 10 → EReal) (d : ℝ) (h0 : 0 ≤ d) : gwS g (d : EReal) = g (bin 10 d) := by
  have e := fun k hk => tenth_le k hk d h0
  rw [gwS]
  simp only [e 1 (by decide), e 2 (by decide), e 3 (by decide), e 4 (by decide), e 5 (by decide),
    e 6 (by decide), e 7 (by decide), e 8 (by decide), e 9 (by decide)]
  generalize bin 10 d = b
  fin_cases b <;> rfl

/-- The comparisons pick the label's bin. -/
theorem cwS_bin (w : Fin 3 → EReal) (t : ℝ) (h0 : 0 ≤ t) : cwS w (t : EReal) = w (bin 3 t) := by
  have e := fun k hk => third_le k hk t h0
  rw [cwS]
  simp only [e 1 (by decide), e 2 (by decide)]
  generalize bin 3 t = b
  fin_cases b <;> rfl

/-- One if `b` reaches `k`, else nothing. -/
def reach (k b : ℕ) : ℝ := if k ≤ b then 1 else 0

/-- One if `b` is `k`, else nothing. -/
def atBin (k b : ℕ) : ℝ := if b = k then 1 else 0

/-- Being in a bin is reaching it and not the next. -/
theorem reach_sub (k b : ℕ) : reach k b - reach (k + 1) b = atBin k b := by
  unfold reach atBin
  rcases lt_trichotomy b k with h | h | h
  · rw [if_neg (by omega), if_neg (by omega), if_neg (by omega), sub_zero]
  · rw [if_pos (by omega), if_neg (by omega), if_pos h, sub_zero]
  · rw [if_pos (by omega), if_pos (by omega), if_neg (by omega), sub_self]

/-- Every bin reaches the first. -/
theorem reach_zero (b : ℕ) : reach 0 b = 1 := if_pos (Nat.zero_le b)

/-- No bin reaches past the last. -/
theorem reach_end (N : ℕ) (b : Fin N) : reach N b.val = 0 := if_neg (by have := b.isLt; omega)

/-- What a counter of tenths gains. -/
theorem oneS_tenth (k : ℕ) (hk : k < 10) (d : ℝ) (h0 : 0 ≤ d) :
    oneS (tenth k) (d : EReal) = ((reach k (bin 10 d).val : ℝ) : EReal) := by
  rw [oneS, reach]
  simp only [tenth_le k hk d h0]
  split <;> simp

/-- What a counter of thirds gains. -/
theorem oneS_third (k : ℕ) (hk : k < 3) (d : ℝ) (h0 : 0 ≤ d) :
    oneS (third k) (d : EReal) = ((reach k (bin 3 d).val : ℝ) : EReal) := by
  rw [oneS, reach]
  simp only [third_le k hk d h0]
  split <;> simp

/-- The word the reference rounds a scaled number to. -/
def binWord (last : BitVec 32) (z : EReal) : BitVec 32 :=
  IntOp.minsi last (IntOp.maxsi 0#32 (Ideal.fptosi 32 (Ideal.liftRound Int.floor z)))

/-- A natural number below `2³¹` is kept as a signed word. -/
theorem toInt_small (n : ℕ) (h : n < 2 ^ 31) : (BitVec.ofNat 32 n).toInt = n := by
  rw [BitVec.toInt_eq_toNat_of_lt (by rw [BitVec.toNat_ofNat, Nat.mod_eq_of_lt (by omega)]; omega),
    BitVec.toNat_ofNat, Nat.mod_eq_of_lt (by omega)]

/-- A small word is not below zero. -/
theorem maxsi_small (n : ℕ) (h : n < 2 ^ 31) :
    IntOp.maxsi 0#32 (BitVec.ofNat 32 n) = BitVec.ofNat 32 n := by
  rw [IntOp.maxsi]
  split
  · rename_i hs
    rw [BitVec.slt, toInt_small n h] at hs
    simp at hs
    omega
  · rfl

/-- The smaller of two small words. -/
theorem minsi_small (a n : ℕ) (ha : a < 2 ^ 31) (h : n < 2 ^ 31) :
    IntOp.minsi (BitVec.ofNat 32 a) (BitVec.ofNat 32 n) = BitVec.ofNat 32 (min n a) := by
  rw [IntOp.minsi]
  split
  · rename_i hs
    rw [BitVec.slt, toInt_small n h, toInt_small a ha] at hs
    simp at hs
    rw [min_eq_right (by omega)]
  · rename_i hs
    rw [BitVec.slt, toInt_small n h, toInt_small a ha] at hs
    simp at hs
    rw [min_eq_left (by omega)]

/-- A small word stays under the wrap of negative indices. -/
theorem wrap_small (n : ℕ) (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

/-- Rounding down, bounding and narrowing give the bin. -/
theorem binWord_eq (N : ℕ) [NeZero N] (hN : N < 2 ^ 30) (d : ℝ) (h0 : 0 ≤ d) (h1 : d ≤ 1) :
    binWord (BitVec.ofNat 32 (N - 1)) ((d : EReal) * ((N : ℝ) : EReal)) = BitVec.ofNat 32 (bin N d).val := by
  have hn : (0 : ℝ) ≤ d * N := by positivity
  have hle : ⌊d * N⌋₊ ≤ N := Nat.floor_le_of_le (by nlinarith [(Nat.cast_nonneg N : (0 : ℝ) ≤ N)])
  have hw : Ideal.fptosi 32 (Ideal.liftRound Int.floor ((d : EReal) * ((N : ℝ) : EReal)))
      = BitVec.ofNat 32 ⌊d * N⌋₊ := by
    rw [← EReal.coe_mul, Ideal.liftRound_coe]
    have hf : ⌊d * N⌋ = (⌊d * N⌋₊ : ℤ) := (Int.natCast_floor_eq_floor hn).symm
    rw [hf, Ideal.fptosi]
    generalize ⌊d * N⌋₊ = n at hle
    have : Ideal.toIntClamped (-(2 ^ (32 - 1) : ℕ)) ((2 ^ (32 - 1) : ℕ) - 1) ((((n : ℤ) : ℝ)) : EReal) = (n : ℤ) := by
      show max _ (min _ (if (0 : ℝ) ≤ ((n : ℤ) : ℝ) then ⌊((n : ℤ) : ℝ)⌋ else _)) = _
      rw [if_pos (by positivity), Int.floor_intCast]
      norm_num
      omega
    rw [this, BitVec.ofInt_natCast]
  rw [binWord, hw, maxsi_small _ (by omega), minsi_small _ _ (by omega) (by omega)]
  rfl

/-- One and infinity add up to infinity. -/
theorem one_add_top : (1 : EReal) + ⊤ = ⊤ := EReal.coe_add_top 1

/-- The reference's probability is the kernel's, the infinities included. -/
theorem sigmoid_eq (x : EReal) : Ideal.div 1 (1 + Ideal.exp (-x)) = pS x := by
  induction x with
  | bot =>
    rw [pS, if_neg (by simp), eS]
    simp [Ideal.exp_bot, Ideal.exp_top, Ideal.div, one_add_top]
  | top =>
    rw [pS, if_pos (by simp), eS]
    simp [Ideal.exp_bot]
  | coe r =>
    rw [pS, eS]
    by_cases h : 0 ≤ r
    · rw [if_pos (by exact_mod_cast h), max_eq_left]
      rw [← EReal.coe_neg]; exact_mod_cast (by linarith : -r ≤ r)
    · rw [not_le] at h
      rw [if_neg (by rw [not_le]; exact_mod_cast h), max_eq_right
        (by rw [← EReal.coe_neg]; exact_mod_cast (by linarith : r ≤ -r)), neg_neg, ← EReal.coe_neg,
        Ideal.exp_coe, Ideal.exp_coe, ← EReal.coe_one, ← EReal.coe_add, ← EReal.coe_add,
        Ideal.div_coe (by positivity), Ideal.div_coe (by positivity), ← EReal.coe_mul, ← EReal.coe_mul,
        ← EReal.coe_mul, Real.exp_neg]
      congr 1
      have := Real.exp_pos r
      field_simp
      try ring

/-- The probability is a real number between zero and one. -/
theorem pS_real (x : EReal) : ∃ p : ℝ, 0 ≤ p ∧ p ≤ 1 ∧ pS x = (p : EReal) := by
  rw [← sigmoid_eq]
  induction x with
  | bot => exact ⟨0, le_refl _, zero_le_one, by simp [Ideal.exp_top, Ideal.div, one_add_top]⟩
  | top =>
    refine ⟨1, zero_le_one, le_refl _, ?_⟩
    rw [EReal.neg_top, Ideal.exp_bot, add_zero, ← EReal.coe_one, Ideal.div_coe one_ne_zero, ← EReal.coe_mul]
    norm_num
  | coe r =>
    have := Real.exp_pos (-r)
    refine ⟨1 / (1 + Real.exp (-r)), by positivity, (div_le_one (by positivity)).2 (by linarith), ?_⟩
    rw [← EReal.coe_neg, Ideal.exp_coe, ← EReal.coe_one, ← EReal.coe_add, Ideal.div_coe (by positivity),
      ← EReal.coe_mul, one_mul]

/-- So is its distance from a target between zero and one. -/
theorem dS_real (x : EReal) (t : ℝ) (h0 : 0 ≤ t) (h1 : t ≤ 1) :
    ∃ d : ℝ, 0 ≤ d ∧ d ≤ 1 ∧ dS x (t : EReal) = (d : EReal) := by
  obtain ⟨p, p0, p1, hp⟩ := pS_real x
  refine ⟨|p - t|, abs_nonneg _, abs_le.2 ⟨by linarith, by linarith⟩, ?_⟩
  rw [dS, hp, ← EReal.coe_sub, ← EReal.coe_neg, abs]
  exact (EReal.coe_strictMono.monotone.map_max).symm

/-- A weight before its root, for a running count `y`. -/
def wPre (y : EReal) : EReal := Ideal.div 1 y + Ideal.ofBits .f32 0x3A83126F#32

/-- The small number added to a weight is a positive real. -/
theorem ofBits_small : ∃ c : ℝ, 0 < c ∧ Ideal.ofBits .f32 0x3A83126F#32 = (c : EReal) := by
  refine ⟨8589935 / 8589934592, by norm_num, ?_⟩
  simp [Ideal.ofBits, Ideal.ieee, -EReal.coe_mul]; norm_num

/-- For a count that is not negative, the weight before its root is infinite or a positive real. -/
theorem wPre_cases (y : EReal) (h : 0 ≤ y) : wPre y = ⊤ ∨ ∃ a : ℝ, 0 < a ∧ wPre y = (a : EReal) := by
  obtain ⟨c, c0, hc⟩ := ofBits_small
  rw [wPre, hc]
  induction y with
  | bot => simp at h
  | top => exact Or.inr ⟨c, c0, by simp [Ideal.div]⟩
  | coe r =>
    have hr : 0 ≤ r := by exact_mod_cast h
    rcases hr.eq_or_lt with rfl | hr
    · left
      simp [Ideal.div]
    · refine Or.inr ⟨1 / r + c, by positivity, ?_⟩
      rw [Ideal.div_coe hr.ne', one_mul, EReal.coe_add]

/-- The root of the product of two weights is the product of their roots. -/
theorem sqrt_wPre_mul (y z : EReal) (hy : 0 ≤ y) (hz : 0 ≤ z) :
    Ideal.sqrt (wPre y * wPre z) = Ideal.sqrt (wPre y) * Ideal.sqrt (wPre z) := by
  have root : ∀ a : ℝ, 0 < a → Ideal.sqrt (a : EReal) = ((√a : ℝ) : EReal) := fun a h => by
    rw [Ideal.sqrt_coe, if_neg (not_lt.2 h.le)]
  rcases wPre_cases y hy with ha | ⟨a, a0, ha⟩ <;> rcases wPre_cases z hz with hb | ⟨b, b0, hb⟩ <;> rw [ha, hb]
  · rw [EReal.top_mul_top, Ideal.sqrt_top, EReal.top_mul_top]
  · rw [EReal.top_mul_coe_of_pos b0, Ideal.sqrt_top, root b b0, EReal.top_mul_coe_of_pos (Real.sqrt_pos.2 b0)]
  · rw [EReal.coe_mul_top_of_pos a0, Ideal.sqrt_top, root a a0, EReal.coe_mul_top_of_pos (Real.sqrt_pos.2 a0)]
  · rw [← EReal.coe_mul, root _ (mul_pos a0 b0), root a a0, root b b0, ← EReal.coe_mul, Real.sqrt_mul a0.le]

/-- A number between zero and one is a real. -/
theorem unit_real (t : EReal) (h0 : 0 ≤ t) (h1 : t ≤ 1) :
    0 ≤ t.toReal ∧ t.toReal ≤ 1 ∧ t = (t.toReal : EReal) := by
  induction t with
  | bot => simp at h0
  | top => exact absurd (top_le_iff.1 h1) (EReal.coe_ne_top 1)
  | coe r => exact ⟨by exact_mod_cast h0, by exact_mod_cast h1, rfl⟩

/-- The gradient's bin of a logit and a target. -/
def gBin (x t : EReal) : Fin 10 := bin 10 (dS x t).toReal

/-- The label's bin of a target. -/
def cBin (t : EReal) : Fin 3 := bin 3 t.toReal

section Cell

variable (x t : EReal) (h0 : 0 ≤ t) (h1 : t ≤ 1)
include h0 h1

/-- The distance is a real between zero and one. -/
theorem dS_unit : 0 ≤ (dS x t).toReal ∧ (dS x t).toReal ≤ 1 ∧ dS x t = ((dS x t).toReal : EReal) := by
  obtain ⟨t0, t1, ht⟩ := unit_real t h0 h1
  obtain ⟨d, d0, d1, hd⟩ := dS_real x t.toReal t0 t1
  rw [← ht] at hd
  rw [hd]
  exact ⟨d0, d1, rfl⟩

/-- The gradient's weight is its bin's. -/
theorem gwS_cell (g : Fin 10 → EReal) : gwS g (dS x t) = g (gBin x t) := by
  obtain ⟨d0, _, hd⟩ := dS_unit x t h0 h1
  rw [hd, gwS_bin g _ d0, gBin]

/-- The label's weight is its bin's. -/
theorem cwS_cell (w : Fin 3 → EReal) : cwS w t = w (cBin t) := by
  obtain ⟨t0, _, ht⟩ := unit_real t h0 h1
  rw [ht, cwS_bin w _ t0, ← ht, cBin]

/-- What a counter of tenths gains. -/
theorem oneS_tenth_cell (k : ℕ) (hk : k < 10) :
    oneS (tenth k) (dS x t) = ((reach k (gBin x t).val : ℝ) : EReal) := by
  obtain ⟨d0, _, hd⟩ := dS_unit x t h0 h1
  rw [hd, oneS_tenth k hk _ d0, gBin]

/-- What a counter of thirds gains. -/
theorem oneS_third_cell (k : ℕ) (hk : k < 3) :
    oneS (third k) t = ((reach k (cBin t).val : ℝ) : EReal) := by
  obtain ⟨t0, _, ht⟩ := unit_real t h0 h1
  rw [ht, oneS_third k hk _ t0, ← ht, cBin]

/-- The word of the gradient's bin. -/
theorem gWord_cell : binWord 9#32 (dS x t * ((10 : ℝ) : EReal)) = BitVec.ofNat 32 (gBin x t).val := by
  obtain ⟨d0, d1, hd⟩ := dS_unit x t h0 h1
  rw [gBin]
  conv_lhs => rw [hd]
  exact binWord_eq 10 (by decide) _ d0 d1

/-- The word of the label's bin. -/
theorem cWord_cell : binWord 2#32 (t * ((3 : ℝ) : EReal)) = BitVec.ofNat 32 (cBin t).val := by
  obtain ⟨t0, t1, ht⟩ := unit_real t h0 h1
  rw [cBin]
  conv_lhs => rw [ht]
  exact binWord_eq 3 (by decide) _ t0 t1

/-- Clipping changes nothing. -/
theorem clip_cell : min (1 : EReal) (max 0 t) = t := by
  rw [max_eq_right h0, min_eq_right h1]

end Cell

end Cert.KernelIdeal.Tile
-- ==== Proof.Ema.lean ====
/- Tables decayed and fed by a histogram, and the counts they are fed. -/
module

public import proofs.«01_k».proof.Proof.Bins
public import proofs.«01_k».proof.Proof.Sums

@[expose] public section

set_option maxRecDepth 16384

noncomputable section

namespace Cert.KernelIdeal.Tile

open Idealize.ShloMosaic Idealize.ShloMosaic.TcCoe Idealize.ShloMosaic.ValueIdx

/-! ## The running tables -/

/-- A table decayed and fed by a histogram `hist`, both scaled to sum to `N`. -/
def ema {ι : Type} [Fintype ι] (N : EReal) (hist old : ι → EReal) (j : ι) : EReal :=
  let upd : ι → EReal := fun i => old i * Ideal.ofBits .f32 0x3F7FFFEF#32
    + Ideal.ofBits .f32 0x358637BD#32 * (Ideal.div (hist i) (∑ k, hist k + Ideal.ofBits .f32 0x2EDBE6FF#32) * N)
  Ideal.div (upd j) (∑ k, upd k + Ideal.ofBits .f32 0x2EDBE6FF#32) * N

/-- Naming the entries otherwise changes nothing. -/
theorem ema_equiv {ι κ : Type} [Fintype ι] [Fintype κ] (e : ι ≃ κ) (N : EReal) (hist old : κ → EReal) (j : ι) :
    ema N (fun i => hist (e i)) (fun i => old (e i)) j = ema N hist old (e j) := by
  unfold ema
  simp only [e.sum_comp hist]
  rw [e.sum_comp fun i => old i * Ideal.ofBits .f32 0x3F7FFFEF#32
    + Ideal.ofBits .f32 0x358637BD#32 * (Ideal.div (hist i) (∑ k, hist k + Ideal.ofBits .f32 0x2EDBE6FF#32) * N)]

/-! ## Counting by thresholds -/

variable {n : ℕ}

/-- How many reach a bin, less how many reach the next, is how many lie in it. -/
theorem count_diff (b : Fin n → ℕ) (k : ℕ) :
    ((∑ r, reach k (b r) : ℝ) : EReal) - ((∑ r, reach (k + 1) (b r) : ℝ) : EReal)
      = ((∑ r, atBin k (b r) : ℝ) : EReal) := by
  rw [← EReal.coe_sub, ← Finset.sum_sub_distrib]
  exact congrArg _ (Finset.sum_congr rfl fun r _ => reach_sub k (b r))

/-- All reach the first bin. -/
theorem count_first (b : Fin n → ℕ) : ((∑ r, reach 0 (b r) : ℝ) : EReal) = ((n : ℝ) : EReal) := by
  rw [Finset.sum_congr rfl fun r _ => reach_zero (b r)]
  simp

/-- All that reach the last bin lie in it. -/
theorem count_last (k : ℕ) (b : Fin n → Fin (k + 1)) :
    ((∑ r, reach k (b r).val : ℝ) : EReal) = ((∑ r, atBin k (b r).val : ℝ) : EReal) := by
  refine congrArg _ (Finset.sum_congr rfl fun r _ => ?_)
  rw [← reach_sub, reach_end (k + 1) (b r), sub_zero]

/-- A sum over a grid of reals may go column by column. -/
theorem coe_sum_comm {m : ℕ} (f : Fin m → Fin n → ℝ) :
    ∑ l : Fin n, ((∑ r : Fin m, f r l : ℝ) : EReal) = ((∑ r : Fin m, ∑ l : Fin n, f r l : ℝ) : EReal) := by
  rw [← coe_sum, Finset.sum_comm]

end Cert.KernelIdeal.Tile
-- ==== Proof.KOut.lean ====
/- The kernel's last step: what is stored of the three accumulated tables. -/
module

public import proofs.«01_k».proof.Proof.Ema
public import Idealize.ShloMosaic.Lib.ValueLayout
public import Idealize.ShloMosaic.Lib.ValueLayoutCasts

@[expose] public section

set_option maxRecDepth 16384

noncomputable section

namespace Cert.KernelIdeal.Tile

open Idealize.ShloMosaic Idealize.ShloMosaic.TcCoe Idealize.ShloMosaic.ValueIdx
open Cert.KernelIdeal Cert.KernelIdeal.Gen

theorem ofBits_rows : Ideal.ofBits .f32 0x46800000#32 = ((16384 : ℝ) : EReal) := by
  simp [Ideal.ofBits, Ideal.ieee, -EReal.coe_mul]; norm_num

theorem ofBits_cells : Ideal.ofBits .f32 0x4B7A0000#32 = ((16384000 : ℝ) : EReal) := by
  simp [Ideal.ofBits, Ideal.ieee, -EReal.coe_mul]

/-- The one-cell array cast from a one-entry vector. -/
theorem cast_one (x : FVec Ideal S1 .f32) (q : S1x1.Idx) :
    shapeCast S1x1 x shapeCasts_S1_S1x1 q = x (ix1 (0 : Fin 1)) :=
  congrArg x ((eq_ix1 _).trans (congrArg ix1 (Subsingleton.elim _ _)))

/-- A one-cell array cast to a scalar. -/
theorem cast_scalar (x : FVec Ideal S1x1 .f32) (i : S_.Idx) : shapeCast S_ x shapeCasts_S1x1_S_ i = x (ix2 0 0) :=
  congrArg x ((eq_ix2 _).trans (congrArg₂ ix2 (Subsingleton.elim _ _) (Subsingleton.elim _ _)))

/-- A column cast to a vector. -/
theorem cast_column (x : FVec Ideal S10x1 .f32) (j : Fin 10) :
    shapeCast S10 x shapeCasts_S10x1_S10 (ix1 j) = x (ix2 j 0) := by
  refine shapeCast_apply _ _ _ _ ?_
  rw [Shape.rowMajor_val_two]
  refine Eq.trans ?_ (Shape.rowMajor_val_one _).symm
  show j.val * 1 + 0 = j.val
  omega

/-- A table cast to a vector, column after column. -/
theorem cast_table (x : FVec Ideal S3x1000 .f32) (j : Fin 3) (l : Fin 1000) (k : Fin 3000) (hk : k.val = j.val + 3 * l.val) :
    shapeCast S3000 (transpose S1000x3 [1, 0] x transposes_S3x1000_S1000x3_1_0) shapeCasts_S1000x3_S3000 (ix1 k)
      = x (ix2 j l) := by
  refine (shapeCast_apply _ _ _ (ix2 l j) ?_).trans (transpose_ix2_apply _ _ _ _)
  rw [Shape.rowMajor_val_two]
  refine Eq.trans ?_ (Shape.rowMajor_val_one _).symm
  show l.val * 3 + j.val = k.val
  omega

/-! ## The mean -/

/-- The mean: the lanes' sum over the number of cells. -/
theorem mean_apply (v : FVec Ideal S1x1000 .f32) (q : S1x1.Idx) :
    k0_pay1662 (F := Ideal) v q = Ideal.div (∑ l : Fin 1000, v (ix2 0 l)) ((16384000 : ℝ) : EReal) := by
  have hs : shapeCast S1x1 (multiReduction .add [1] S1 v 0x00000000#32 reduces_S1x1000_S1 (.inl rfl) rfl)
      shapeCasts_S1_S1x1 q = ∑ l : Fin 1000, v (ix2 0 l) := by
    refine (cast_one _ q).trans ((Ideal.multiReduction_add_single ..).trans ?_)
    exact Finset.sum_congr rfl fun l _ => congrArg v (eq_ix2 _)
  rw [← ofBits_cells, ← hs]
  rfl

/-! ## The gradient's table -/

/-- The column's entries summed. -/
theorem colSum_apply (x : FVec Ideal S10x1 .f32) (q : S1x1.Idx) :
    shapeCast S1x1 (multiReduction .add [0] S1 x 0x00000000#32 reduces_S10x1_S1 (.inl rfl) rfl) shapeCasts_S1_S1x1 q
      = ∑ k : Fin 10, x (ix2 k 0) := by
  refine (cast_one _ q).trans ((Ideal.multiReduction_add_single ..).trans ?_)
  exact Finset.sum_congr rfl fun k _ => congrArg x (eq_ix2 _)

/-- A column scaled to sum to ten. -/
def norm10 (x : FVec Ideal S10x1 .f32) : FVec Ideal S10x1 .f32 :=
  mulf (divf x (broadcastTo S10x1 (addf
    (shapeCast S1x1 (multiReduction .add [0] S1 x 0x00000000#32 reduces_S10x1_S1 (.inl rfl) rfl) shapeCasts_S1_S1x1)
    (broadcast S1x1 (Scalar.ofBits .f32 0x2EDBE6FF#32))) broadcasts_S1x1_S10x1))
    (broadcast S10x1 (Scalar.ofBits .f32 0x41200000#32))

theorem norm10_apply (x : FVec Ideal S10x1 .f32) (j : Fin 10) :
    norm10 x (ix2 j 0) = Ideal.div (x (ix2 j 0)) (∑ k : Fin 10, x (ix2 k 0) + Ideal.ofBits .f32 0x2EDBE6FF#32)
      * Ideal.ofBits .f32 0x41200000#32 := by
  rw [← colSum_apply x (ix2 0 0)]
  refine congrArg (fun z => Ideal.div (x (ix2 j 0)) z * Ideal.ofBits .f32 0x41200000#32) ?_
  exact broadcastTo_1b_ab_apply _ _ _ _

/-- How many lie in the first bin, in the eight between and in the last, from how many reach each threshold. -/
abbrev parts10 (v : FVec Ideal S9x1000 .f32) : List ((s : Shape) × (s.Idx → Ideal .f32)) :=
  [⟨S1x1000, subf (broadcast S1x1000 (Scalar.ofBits .f32 0x46800000#32))
      (extractStridedSlice S1x1000 ![0, 0] v slices_S9x1000_o0_0_S1x1000)⟩,
    ⟨S8x1000, subf (extractStridedSlice S8x1000 ![0, 0] v slices_S9x1000_o0_0_S8x1000)
      (extractStridedSlice S8x1000 ![1, 0] v slices_S9x1000_o1_0_S8x1000)⟩,
    ⟨S1x1000, extractStridedSlice S1x1000 ![8, 0] v slices_S9x1000_o8_0_S1x1000⟩]

/-- Per bin and lane: how many lie in it. -/
def cat10 (v : FVec Ideal S9x1000 .f32) : FVec Ideal S10x1000 .f32 :=
  concatenate S10x1000 0 (parts10 v) concatenates_S1x1000_S8x1000_S1x1000_S10x1000_d0

/-- The histogram: the lanes of each bin summed. -/
def hist10 (v : FVec Ideal S9x1000 .f32) : FVec Ideal S10x1 .f32 :=
  shapeCast S10x1 (multiReduction .add [1] S10 (cat10 v) 0x00000000#32 reduces_S10x1000_S10 (.inl rfl) rfl)
    shapeCasts_S10_S10x1

theorem hist10_apply (v : FVec Ideal S9x1000 .f32) (j : Fin 10) :
    hist10 v (ix2 j 0) = ∑ l : Fin 1000, cat10 v (ix2 j l) := by
  refine (shapeCast_a_a1_apply _ _ _ _).trans ((Ideal.multiReduction_add_single ..).trans ?_)
  exact Finset.sum_congr rfl fun l _ => congrArg (cat10 v) (eq_ix2 _)

theorem pay1659_eq (v : FVec Ideal S9x1000 .f32) (w : FVec Ideal S10x1 .f32) :
    k0_pay1659 (F := Ideal) v w = norm10 (addf
      (mulf (shapeCast S10x1 w shapeCasts_S10x1_S10x1) (broadcast S10x1 (Scalar.ofBits .f32 0x3F7FFFEF#32)))
      (mulf (broadcast S10x1 (Scalar.ofBits .f32 0x358637BD#32)) (norm10 (hist10 v)))) := rfl

/-- The stored gradient table. -/
theorem pay1659_apply (v : FVec Ideal S9x1000 .f32) (w : FVec Ideal S10x1 .f32) (j : Fin 10) :
    k0_pay1659 (F := Ideal) v w (ix2 j 0) = ema (Ideal.ofBits .f32 0x41200000#32)
      (fun k : Fin 10 => ∑ l : Fin 1000, cat10 v (ix2 k l)) (fun k => w (ix2 k 0)) j := by
  have hu : ∀ k : Fin 10, (addf
      (mulf (shapeCast S10x1 w shapeCasts_S10x1_S10x1) (broadcast S10x1 (Scalar.ofBits .f32 0x3F7FFFEF#32)))
      (mulf (broadcast S10x1 (Scalar.ofBits .f32 0x358637BD#32)) (norm10 (hist10 v)))) (ix2 k 0)
      = w (ix2 k 0) * Ideal.ofBits .f32 0x3F7FFFEF#32
        + Ideal.ofBits .f32 0x358637BD#32 * norm10 (hist10 v) (ix2 k 0) := fun k => by
    rw [shapeCast_self]; rfl
  rw [pay1659_eq, norm10_apply, ema]
  simp only [hu, norm10_apply, hist10_apply]

/-- In each bin and lane lie as many rows as have that bin. -/
theorem cat10_count (v : FVec Ideal S9x1000 .f32) (b : Fin 16384 → Fin 1000 → Fin 10)
    (hv : ∀ (k : Fin 9) (l : Fin 1000), v (ix2 k l) = ((∑ r, reach (k.val + 1) (b r l).val : ℝ) : EReal))
    (j : Fin 10) (l : Fin 1000) :
    cat10 v (ix2 j l) = ((∑ r, atBin j.val (b r l).val : ℝ) : EReal) := by
  rcases Nat.eq_zero_or_pos j.val with h | h
  · have e : cat10 v (ix2 j l) = Ideal.ofBits .f32 0x46800000#32 - v (ix2 0 l) := by
      refine Eq.trans (concatenate_apply_piece (t := S10x1000) (0 : Fin 2) (parts10 v) concatenates_S1x1000_S8x1000_S1x1000_S10x1000_d0 (ix2 j l) 0 (show 0 < 3 by decide) S1x1000 _ rfl rfl 0 rfl (ix2 0 l)
        (fun b hb => ?_) (show 0 + 0 = j.val by omega)) ?_
      · fin_cases b
        · exact absurd rfl hb
        · rfl
      · exact congrArg (fun z => Ideal.ofBits .f32 0x46800000#32 - z)
          (extractStridedSlice_apply _ _ _ (ix2 0 l) (ix2 0 l) fun a => by fin_cases a <;> simp)
    rw [e, hv, ofBits_rows, h, ← count_diff, count_first]
    norm_num
  · rcases Nat.lt_or_ge j.val 9 with h9 | h9
    · have e : cat10 v (ix2 j l) = v (ix2 (⟨j.val - 1, by omega⟩ : Fin 9) l) - v (ix2 (⟨j.val, h9⟩ : Fin 9) l) := by
        refine Eq.trans (concatenate_apply_piece (t := S10x1000) (0 : Fin 2) (parts10 v) concatenates_S1x1000_S8x1000_S1x1000_S10x1000_d0 (ix2 j l) 1 (show 1 < 3 by decide) S8x1000 _ rfl rfl 1 rfl
          (ix2 (⟨j.val - 1, by omega⟩ : Fin 8) l) (fun b hb => ?_) (show 1 + (j.val - 1) = j.val by omega)) ?_
        · fin_cases b
          · exact absurd rfl hb
          · rfl
        · refine congrArg₂ (fun y z : EReal => y - z)
            (extractStridedSlice_apply _ _ _ _ (ix2 (⟨j.val - 1, by omega⟩ : Fin 9) l) fun a => ?_)
            (extractStridedSlice_apply _ _ _ _ (ix2 (⟨j.val, h9⟩ : Fin 9) l) fun a => ?_)
          · fin_cases a
            · show j.val - 1 = 0 + (j.val - 1); omega
            · show l.val = 0 + l.val; omega
          · fin_cases a
            · show j.val = 1 + (j.val - 1); omega
            · show l.val = 0 + l.val; omega
      rw [e, hv, hv, ← count_diff]
      dsimp only
      rw [Nat.sub_add_cancel h]
    · have e : cat10 v (ix2 j l) = v (ix2 8 l) := by
        refine Eq.trans (concatenate_apply_piece (t := S10x1000) (0 : Fin 2) (parts10 v) concatenates_S1x1000_S8x1000_S1x1000_S10x1000_d0 (ix2 j l) 2 (show 2 < 3 by decide) S1x1000 _ rfl rfl 9 rfl (ix2 0 l)
          (fun b hb => ?_) (show 9 + 0 = j.val by omega)) ?_
        · fin_cases b
          · exact absurd rfl hb
          · rfl
        · exact extractStridedSlice_apply _ _ _ (ix2 0 l) (ix2 8 l) fun a => by fin_cases a <;> simp
      have hj : j.val = 9 := by omega
      rw [e, hv, hj]
      exact count_last 9 fun r => b r l

/-! ## The label's table -/

/-- The table's entries summed, lanes first. -/
theorem tableSum_apply (x : FVec Ideal S3x1000 .f32) (q : S1x1.Idx) :
    shapeCast S1x1 (multiReduction .add [0] S1
      (shapeCast S3x1 (multiReduction .add [1] S3 x 0x00000000#32 reduces_S3x1000_S3 (.inl rfl) rfl) shapeCasts_S3_S3x1)
      0x00000000#32 reduces_S3x1_S1 (.inl rfl) rfl) shapeCasts_S1_S1x1 q
      = ∑ k : Fin 3, ∑ l : Fin 1000, x (ix2 k l) := by
  refine (cast_one _ q).trans ((Ideal.multiReduction_add_single ..).trans ?_)
  refine Finset.sum_congr rfl fun k _ => ?_
  refine (congrArg _ (eq_ix2 _)).trans ((shapeCast_a_a1_apply _ _ _ _).trans ((Ideal.multiReduction_add_single ..).trans ?_))
  exact Finset.sum_congr rfl fun l _ => congrArg x (eq_ix2 _)

/-- A table scaled to sum to three thousand. -/
def norm3 (x : FVec Ideal S3x1000 .f32) : FVec Ideal S3x1000 .f32 :=
  mulf (divf x (broadcastTo S3x1000 (addf
    (shapeCast S1x1 (multiReduction .add [0] S1
      (shapeCast S3x1 (multiReduction .add [1] S3 x 0x00000000#32 reduces_S3x1000_S3 (.inl rfl) rfl) shapeCasts_S3_S3x1)
      0x00000000#32 reduces_S3x1_S1 (.inl rfl) rfl) shapeCasts_S1_S1x1)
    (broadcast S1x1 (Scalar.ofBits .f32 0x2EDBE6FF#32))) broadcasts_S1x1_S3x1000))
    (broadcast S3x1000 (Scalar.ofBits .f32 0x453B8000#32))

theorem norm3_apply (x : FVec Ideal S3x1000 .f32) (j : Fin 3) (l : Fin 1000) :
    norm3 x (ix2 j l) = Ideal.div (x (ix2 j l))
      (∑ k : Fin 3, ∑ l : Fin 1000, x (ix2 k l) + Ideal.ofBits .f32 0x2EDBE6FF#32) * Ideal.ofBits .f32 0x453B8000#32 := by
  rw [← tableSum_apply x (ix2 0 0)]
  refine congrArg (fun z => Ideal.div (x (ix2 j l)) z * Ideal.ofBits .f32 0x453B8000#32) ?_
  refine broadcastTo_apply _ _ _ (ix2 0 0) fun a => ?_
  fin_cases a <;> rfl

/-- How many lie in each of three bins, from how many reach each threshold. -/
abbrev parts3 (v u : FVec Ideal S1x1000 .f32) : List ((s : Shape) × (s.Idx → Ideal .f32)) :=
  [⟨S1x1000, subf (k0_pay1660 (F := Ideal)) v⟩, ⟨S1x1000, subf v u⟩, ⟨S1x1000, u⟩]

/-- Per bin and lane: how many lie in it. -/
def cat3 (v u : FVec Ideal S1x1000 .f32) : FVec Ideal S3x1000 .f32 :=
  concatenate S3x1000 0 (parts3 v u) concatenates_S1x1000_S1x1000_S1x1000_S3x1000_d0

theorem pay1661_eq (v u : FVec Ideal S1x1000 .f32) (w : FVec Ideal S3x1000 .f32) :
    k0_pay1661 (F := Ideal) v u (k0_pay1660 (F := Ideal)) w = norm3 (addf
      (mulf (shapeCast S3x1000 w shapeCasts_S3x1000_S3x1000) (broadcast S3x1000 (Scalar.ofBits .f32 0x3F7FFFEF#32)))
      (mulf (broadcast S3x1000 (Scalar.ofBits .f32 0x358637BD#32)) (norm3 (cat3 v u)))) := rfl

/-- The stored label table. -/
theorem pay1661_apply (v u : FVec Ideal S1x1000 .f32) (w : FVec Ideal S3x1000 .f32) (j : Fin 3) (l : Fin 1000) :
    k0_pay1661 (F := Ideal) v u (k0_pay1660 (F := Ideal)) w (ix2 j l) = ema (Ideal.ofBits .f32 0x453B8000#32)
      (fun k : Fin 3 × Fin 1000 => cat3 v u (ix2 k.1 k.2)) (fun k => w (ix2 k.1 k.2)) (j, l) := by
  have hu : ∀ (k : Fin 3) (l : Fin 1000), (addf
      (mulf (shapeCast S3x1000 w shapeCasts_S3x1000_S3x1000) (broadcast S3x1000 (Scalar.ofBits .f32 0x3F7FFFEF#32)))
      (mulf (broadcast S3x1000 (Scalar.ofBits .f32 0x358637BD#32)) (norm3 (cat3 v u)))) (ix2 k l)
      = w (ix2 k l) * Ideal.ofBits .f32 0x3F7FFFEF#32
        + Ideal.ofBits .f32 0x358637BD#32 * norm3 (cat3 v u) (ix2 k l) := fun k l => by
    rw [shapeCast_self]; rfl
  rw [pay1661_eq, norm3_apply, ema]
  simp only [hu, norm3_apply, Fintype.sum_prod_type]

/-- In each bin and lane lie as many rows as have that bin. -/
theorem cat3_count (v u : FVec Ideal S1x1000 .f32) (b : Fin 16384 → Fin 1000 → Fin 3)
    (hv : ∀ l : Fin 1000, v (ix2 0 l) = ((∑ r, reach 1 (b r l).val : ℝ) : EReal))
    (hu : ∀ l : Fin 1000, u (ix2 0 l) = ((∑ r, reach 2 (b r l).val : ℝ) : EReal)) (j : Fin 3) (l : Fin 1000) :
    cat3 v u (ix2 j l) = ((∑ r, atBin j.val (b r l).val : ℝ) : EReal) := by
  have off : ∀ (j : Fin 3) (b : Fin 2), b ≠ 0 → ((ix2 (0 : Fin 1) l : S1x1000.Idx) b).val = ((ix2 j l : S3x1000.Idx) b).val :=
    fun j b hb => by
      fin_cases b
      · exact absurd rfl hb
      · rfl
  fin_cases j
  · refine Eq.trans (concatenate_apply_piece (t := S3x1000) (0 : Fin 2) (parts3 v u) concatenates_S1x1000_S1x1000_S1x1000_S3x1000_d0 (ix2 0 l) 0 (show 0 < 3 by decide) S1x1000 _ rfl rfl 0 rfl (ix2 0 l)
      (off 0) rfl) ?_
    show Ideal.ofBits .f32 0x46800000#32 - v (ix2 0 l) = ((∑ r, atBin 0 (b r l).val : ℝ) : EReal)
    rw [hv, ofBits_rows, ← count_diff, count_first]
    norm_num
  · refine Eq.trans (concatenate_apply_piece (t := S3x1000) (0 : Fin 2) (parts3 v u) concatenates_S1x1000_S1x1000_S1x1000_S3x1000_d0 (ix2 1 l) 1 (show 1 < 3 by decide) S1x1000 _ rfl rfl 1 rfl (ix2 0 l)
      (off 1) rfl) ?_
    show v (ix2 0 l) - u (ix2 0 l) = ((∑ r, atBin 1 (b r l).val : ℝ) : EReal)
    rw [hv, hu, ← count_diff]
  · refine Eq.trans (concatenate_apply_piece (t := S3x1000) (0 : Fin 2) (parts3 v u) concatenates_S1x1000_S1x1000_S1x1000_S3x1000_d0 (ix2 2 l) 2 (show 2 < 3 by decide) S1x1000 _ rfl rfl 2 rfl (ix2 0 l)
      (off 2) rfl) ?_
    rw [hu]
    exact count_last 2 fun r => b r l

end Cert.KernelIdeal.Tile
-- ==== Proof.RefCell.lean ====
/- The reference's program read at one row and one column. -/
module

public import proofs.«01_k».proof.Proof.Bins
public import proofs.«01_k».proof.Proof.Gen.ReferenceIdeal.Read

@[expose] public section

set_option maxRecDepth 16384

noncomputable section

namespace Cert.ReferenceIdeal.Cell

open Idealize.ShloMosaic Idealize.ShloMosaic.TcCoe Idealize.ShloMosaic.ValueIdx
open Cert.ReferenceIdeal Cert.ReferenceIdeal.Gen Cert.ReferenceIdeal.Read
open Cert.KernelIdeal.Tile

theorem ofBits_three : Ideal.ofBits .f32 0x40400000#32 = ((3 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

/-- The place of column `l` and label bin `j` in a table of three bins per column. -/
def slot (l : Fin 1000) (j : Fin 3) : Fin 3000 := ⟨j.val + 3 * l.val, by omega⟩

section Elementwise

variable (x0 x1 : S16384x1000.Idx → EReal) (i : S16384x1000.Idx) (h0 : 0 ≤ x1 i) (h1 : x1 i ≤ 1)
include h0 h1

/-- The clipped target is the target. -/
theorem v0_cell : val_main_v0 (F := Ideal) x1 i = x1 i := by
  rw [val_main_v0_apply, val_main_call0_v4_apply, val_main_call0_v2_apply, val_main_call0_v1_apply]
  refine Eq.trans ?_ (clip_cell (x1 i) h0 h1)
  show min (Ideal.ofBits .f32 0x3F800000#32) (max (Ideal.ofBits .f32 0x00000000#32) (x1 i)) = _
  rw [Ideal.ofBits_one_f32, Ideal.ofBits_zero_f32]

/-- The cross entropy is the kernel's. -/
theorem v8_cell : val_main_v8 (F := Ideal) x0 x1 i = rawS (x0 i) (x1 i) := by
  rw [val_main_v8_apply, val_main_v3_apply, val_main_v2_apply, v0_cell x1 i h0 h1, val_main_v1_apply,
    val_main_call1_v1_apply]
  show max (Ideal.ofBits .f32 0x00000000#32) (x0 i) - x0 i * x1 i + Ideal.log (1 + eS (x0 i)) = _
  rw [Ideal.ofBits_zero_f32, max_comm, rawS]

/-- The distance of the probability from the target is the kernel's. -/
theorem v16_cell : val_main_v16 (F := Ideal) x0 x1 i = dS (x0 i) (x1 i) := by
  rw [val_main_v16_apply, val_main_v15_apply, v0_cell x1 i h0 h1, val_main_v14_apply, val_main_v13_apply,
    val_main_v12_apply, val_main_v11_apply]
  have hp : (FloatOps.hostDivf (F := Ideal) (φ := .f32) (val_main_cst_3 (F := Ideal) (idx_main_v13 i))
      (FloatOps.addf (F := Ideal) (φ := .f32) (val_main_cst_2 (F := Ideal) (idx_main_v11 i)) (val_main_v10 (F := Ideal) x0 i)) : EReal)
      = pS (x0 i) := by
    rw [← sigmoid_eq]
    show Ideal.div (Ideal.ofBits .f32 0x3F800000#32) (Ideal.ofBits .f32 0x3F800000#32 + Ideal.exp (-(x0 i))) = _
    rw [Ideal.ofBits_one_f32]
  rw [hp]
  rfl

/-- The gradient's bin, as a word. -/
theorem v21_cell : val_main_v21 (F := Ideal) x0 x1 i = BitVec.ofNat 32 (gBin (x0 i) (x1 i)).val := by
  refine Eq.trans ?_ (gWord_cell (x0 i) (x1 i) h0 h1)
  rw [val_main_v21_apply, val_main_call2_v4_apply, val_main_call2_v2_apply, val_main_call2_v1_apply,
    val_main_v20_apply, val_main_v19_apply, val_main_v18_apply, v16_cell x0 x1 i h0 h1, val_main_v17_apply]
  show binWord 9#32 (dS (x0 i) (x1 i) * Ideal.ofBits .f32 0x41200000#32) = _
  rw [ofBits_ten]

/-- The label's bin, as a word. -/
theorem v37_cell : val_main_v37 (F := Ideal) x1 i = BitVec.ofNat 32 (cBin (x1 i)).val := by
  refine Eq.trans ?_ (cWord_cell (x1 i) h0 h1)
  rw [val_main_v37_apply, val_main_call3_v4_apply, val_main_call3_v2_apply, val_main_call3_v1_apply,
    val_main_v36_apply, val_main_v35_apply, val_main_v34_apply, v0_cell x1 i h0 h1, val_main_v33_apply]
  show binWord 2#32 (x1 i * Ideal.ofBits .f32 0x40400000#32) = _
  rw [ofBits_three]

/-- The wrap of negative indices leaves the gradient's bin alone. -/
theorem v26_cell : val_main_v26 (F := Ideal) x0 x1 i = BitVec.ofNat 32 (gBin (x0 i) (x1 i)).val := by
  rw [val_main_v26_apply, val_main_v23_apply, v21_cell x0 x1 i h0 h1, val_main_v22_apply]
  exact wrap_small _ (by have := (gBin (x0 i) (x1 i)).isLt; omega) _

end Elementwise

section Grid

variable (x0 x1 : S16384x1000.Idx → EReal) (r : Fin 16384) (l : Fin 1000)
  (h0 : 0 ≤ x1 (ix2 r l)) (h1 : x1 (ix2 r l) ≤ 1)
include h0 h1

/-- The place counted for the label, as a word. -/
theorem v43_cell : val_main_v43 (F := Ideal) x1 (ix2 r l) = BitVec.ofNat 32 (slot l (cBin (x1 (ix2 r l)))).val := by
  rw [val_main_v43_apply, v37_cell x1 (ix2 r l) h0 h1, val_main_v42_apply, val_main_v41_apply,
    val_main_v40_apply, val_main_v39_apply]
  show BitVec.ofNat 32 _ + 3#32 * BitVec.ofNat 32 l.val = BitVec.ofNat 32 (_ + 3 * l.val)
  rw [BitVec.ofNat_add, BitVec.ofNat_mul]

/-- The wrap leaves it alone. -/
theorem v48_cell : val_main_v48 (F := Ideal) x1 (ix2 r l) = BitVec.ofNat 32 (slot l (cBin (x1 (ix2 r l)))).val := by
  rw [val_main_v48_apply, val_main_v45_apply, v43_cell x1 r l h0 h1, val_main_v44_apply]
  exact wrap_small _ (by have := (slot l (cBin (x1 (ix2 r l)))).isLt; omega) _

/-- The running count gathered for the gradient is its bin's. -/
theorem v28_cell (x3 : S10.Idx → EReal) :
    val_main_v28 (F := Ideal) x0 x1 x3 (ix2 r l) = x3 (ix1 (gBin (x0 (ix2 r l)) (x1 (ix2 r l)))) := by
  have hw : val_main_v27 (F := Ideal) x0 x1 (takeIdx (ix2 r l))
      = BitVec.ofNat 32 (gBin (x0 (ix2 r l)) (x1 (ix2 r l))).val :=
    (val_main_v27_apply (F := Ideal) x0 x1 _).trans
      ((congrArg _ (show idx_main_v27 (takeIdx (ix2 r l)) = ix2 r l from
        funext fun a => match a with | ⟨0, _⟩ => rfl | ⟨1, _⟩ => rfl)).trans (v26_cell x0 x1 (ix2 r l) h0 h1))
  refine (gather_take_apply (N := 10) (R := 16384) (C := 1000) (by decide) _ x3
    (val_main_v27 (F := Ideal) x0 x1) (ix2 r l)).trans ?_
  have hb := (gBin (x0 (ix2 r l)) (x1 (ix2 r l))).isLt
  refine congrArg (fun k => x3 (ix1 k)) (Fin.ext ?_)
  dsimp only
  rw [hw, toInt_small _ (by omega)]
  omega

/-- The running count gathered for the label is its place's. -/
theorem v50_cell (x4 : S3000.Idx → EReal) :
    val_main_v50 (F := Ideal) x1 x4 (ix2 r l) = x4 (ix1 (slot l (cBin (x1 (ix2 r l))))) := by
  have hw : val_main_v49 (F := Ideal) x1 (takeIdx (ix2 r l))
      = BitVec.ofNat 32 (slot l (cBin (x1 (ix2 r l)))).val :=
    (val_main_v49_apply (F := Ideal) x1 _).trans
      ((congrArg _ (show idx_main_v49 (takeIdx (ix2 r l)) = ix2 r l from
        funext fun a => match a with | ⟨0, _⟩ => rfl | ⟨1, _⟩ => rfl)).trans (v48_cell x1 r l h0 h1))
  refine (gather_take_apply (N := 3000) (R := 16384) (C := 1000) (by decide) _ x4
    (val_main_v49 (F := Ideal) x1) (ix2 r l)).trans ?_
  have hb := (slot l (cBin (x1 (ix2 r l)))).isLt
  refine congrArg (fun k => x4 (ix1 k)) (Fin.ext ?_)
  dsimp only
  rw [hw, toInt_small _ (by omega)]
  omega

/-- The weighted loss of one row and column, the mask being one. -/
theorem v58_cell (x2 : S16384x1000.Idx → EReal) (x3 : S10.Idx → EReal) (x4 : S3000.Idx → EReal)
    (h2 : x2 (ix2 r l) = 1) (h3 : ∀ k, 0 ≤ x3 k) (h4 : ∀ k, 0 ≤ x4 k) :
    val_main_v58 (F := Ideal) x0 x1 x2 x3 x4 (ix2 r l)
      = rawS (x0 (ix2 r l)) (x1 (ix2 r l))
        * (Ideal.sqrt (wPre (x3 (ix1 (gBin (x0 (ix2 r l)) (x1 (ix2 r l))))))
          * Ideal.sqrt (wPre (x4 (ix1 (slot l (cBin (x1 (ix2 r l)))))))) := by
  rw [← sqrt_wPre_mul _ _ (h3 _) (h4 _), val_main_v58_apply, h2, val_main_v57_apply,
    v8_cell x0 x1 _ h0 h1, val_main_v56_apply, val_main_v55_apply, val_main_v32_apply, val_main_v30_apply,
    val_main_v54_apply, val_main_v52_apply, v28_cell x0 x1 r l h0 h1, v50_cell x1 r l h0 h1,
    val_main_v29_apply, val_main_v31_apply, val_main_v51_apply, val_main_v53_apply, wPre, wPre,
    ← Ideal.ofBits_one_f32]
  show _ * Ideal.ofBits .f32 0x3F800000#32 = _
  rw [Ideal.ofBits_one_f32, mul_one]
  show rawS _ _ * Ideal.sqrt ((Ideal.div (Ideal.ofBits .f32 0x3F800000#32) _ + _)
    * (Ideal.div (Ideal.ofBits .f32 0x3F800000#32) _ + _)) = _
  rw [Ideal.ofBits_one_f32]
  rfl

end Grid

end Cert.ReferenceIdeal.Cell
-- ==== Proof.Ref.lean ====
/- The reference's three results: the mean loss and the two running tables. -/
module

public import proofs.«01_k».proof.Proof.RefCell
public import proofs.«01_k».proof.Proof.Ema
public import Idealize.ShloMosaic.Lib.ValueIdxRank1

@[expose] public section

set_option maxRecDepth 16384

noncomputable section

namespace Cert.ReferenceIdeal.Cell

open Idealize.ShloMosaic Idealize.ShloMosaic.TcCoe Idealize.ShloMosaic.ValueIdx
open Cert.ReferenceIdeal Cert.ReferenceIdeal.Gen Cert.ReferenceIdeal.Read
open Cert.KernelIdeal.Tile

/-! ## A scatter of ones counts -/

section Scatter

variable {N M : ℕ} (d : ScatterDims ⟨1, ![N]⟩ ⟨2, ![M, 1]⟩ ⟨1, ![M]⟩) (hins : d.insertedWindowDims = [0])
  (hdims : d.scatterDimsToOperandDims = [0]) (hvec : d.indexVectorDim = 1)
include hins hdims hvec

/-- Update `i` starts at its index word, read signed. -/
theorem start_eq (idx : IVec ⟨2, ![M, 1]⟩ 32) (i : Fin M) :
    d.start (ix1 i) idx 0 = (idx (ix2 i (0 : Fin 1))).toInt := by
  have hm : (0 : Fin 1) ∈ d.scatterDimsToOperandDims := by simp [hdims]
  unfold ScatterDims.start
  rw [dif_pos hm]
  refine congrArg (fun k => (idx k).toInt) (funext fun a => Fin.ext ?_)
  fin_cases a
  · unfold ScatterDims.siIdx
    rw [dif_neg (by rw [hvec]; exact Nat.zero_ne_one)]
    unfold ScatterDims.siCoord
    have one : ∀ a : Fin 1, (ix1 i a).val = i.val := fun a => by rw [Fin.fin_one_eq_zero a]
    exact one _
  · unfold ScatterDims.siIdx
    rw [dif_pos (by rw [hvec])]
    show List.idxOf (0 : Fin 1) d.scatterDimsToOperandDims = 0
    simp [hdims]

/-- It lands at `x` just when that word is `x`. -/
theorem lands_iff (idx : IVec ⟨2, ![M, 1]⟩ 32) (i : Fin M) (x : Fin N) :
    d.resultIdx? (ix1 i) idx = some (ix1 x) ↔ (idx (ix2 i (0 : Fin 1))).toInt = (x.val : ℤ) := by
  have hw : d.window (ix1 i) 0 = 0 := by
    unfold ScatterDims.window
    exact dif_neg fun h => (of_decide_eq_true (List.mem_filter.1 h).2) (by simp [hins])
  refine (Routing.resultIdx?_ix1 d (ix1 i) idx x).trans ?_
  rw [start_eq d hins hdims hvec, hw, Nat.cast_zero, add_zero]

/-- Ones scattered over zeros by bins count how often each bin occurs. -/
theorem scatter_ones (hN : N < 2 ^ 31) (z : (⟨1, ![N]⟩ : Shape).Idx → EReal) (hz : ∀ x, z x = 0)
    (idx : IVec ⟨2, ![M, 1]⟩ 32) (u : (⟨1, ![M]⟩ : Shape).Idx → EReal) (hu : ∀ i, u i = 1) (b : Fin M → Fin N)
    (hb : ∀ i, idx (ix2 i (0 : Fin 1)) = BitVec.ofNat 32 (b i).val) (x : Fin N) :
    Ideal.hostScatterAdd d z idx u (ix1 x) = ((∑ i, atBin x.val (b i).val : ℝ) : EReal) := by
  have hl : ∀ i, d.resultIdx? (ix1 i) idx = some (ix1 x) ↔ (b i).val = x.val := fun i => by
    rw [lands_iff d hins hdims hvec, hb, toInt_small _ (by have := (b i).isLt; omega)]
    exact Nat.cast_inj
  rw [Ideal.hostScatterAdd, hz, zero_add, Finset.sum_filter, ← idxEquiv1.symm.sum_comp, coe_sum]
  refine Finset.sum_congr rfl fun i _ => ?_
  rw [hu, atBin]
  refine (if_congr (hl i) rfl rfl).trans ?_
  split <;> simp

end Scatter

/-! ## The results -/

section Results

variable (x0 x1 x2 : S16384x1000.Idx → EReal) (x3 : S10.Idx → EReal) (x4 : S3000.Idx → EReal)

/-- The gradient's table is decayed and fed by its histogram. -/
theorem v89_ema : val_main_v89 (F := Ideal) x0 x1 x2 x3
    = ema (Ideal.ofBits .f32 0x41200000#32) (val_main_v72 (F := Ideal) x0 x1 x2) x3 := by
  have h83 : ∀ i, val_main_v83 (F := Ideal) x0 x1 x2 x3 i = x3 i * Ideal.ofBits .f32 0x3F7FFFEF#32
      + Ideal.ofBits .f32 0x358637BD#32 * (Ideal.div (val_main_v72 (F := Ideal) x0 x1 x2 i)
        (∑ k, val_main_v72 (F := Ideal) x0 x1 x2 k + Ideal.ofBits .f32 0x2EDBE6FF#32) * Ideal.ofBits .f32 0x41200000#32) := fun i => by
    rw [val_main_v83_apply, val_main_v80_apply, val_main_v82_apply, val_main_v78_apply, val_main_v76_apply,
      val_main_v75_apply, val_main_v74_apply, val_main_v73_apply, val_main_v79_apply, val_main_v81_apply,
      val_main_v77_apply, val_main_cst_24_apply]
    generalize val_main_v72 (F := Ideal) x0 x1 x2 = h
    show _ + _ * (Ideal.div (h i) (Ideal.ofBits .f32 0x00000000#32 + _ + _) * _) = _
    rw [Ideal.ofBits_zero_f32, zero_add]
    rfl
  funext i
  rw [val_main_v89_apply, val_main_v87_apply, val_main_v86_apply, val_main_v85_apply, val_main_v84_apply,
    val_main_v88_apply, val_main_cst_29_apply, ema, funext h83]
  dsimp only
  show Ideal.div _ (Ideal.ofBits .f32 0x00000000#32 + _ + _) * _ = _
  rw [Ideal.ofBits_zero_f32, zero_add]
  rfl

/-- The label's table is decayed and fed by its histogram. -/
theorem v116_ema : val_main_v116 (F := Ideal) x1 x2 x4
    = ema (Ideal.ofBits .f32 0x453B8000#32) (val_main_v99 (F := Ideal) x1 x2) x4 := by
  have h110 : ∀ i, val_main_v110 (F := Ideal) x1 x2 x4 i = x4 i * Ideal.ofBits .f32 0x3F7FFFEF#32
      + Ideal.ofBits .f32 0x358637BD#32 * (Ideal.div (val_main_v99 (F := Ideal) x1 x2 i)
        (∑ k, val_main_v99 (F := Ideal) x1 x2 k + Ideal.ofBits .f32 0x2EDBE6FF#32) * Ideal.ofBits .f32 0x453B8000#32) := fun i => by
    rw [val_main_v110_apply, val_main_v107_apply, val_main_v109_apply, val_main_v105_apply, val_main_v103_apply,
      val_main_v102_apply, val_main_v101_apply, val_main_v100_apply, val_main_v106_apply, val_main_v108_apply,
      val_main_v104_apply, val_main_cst_36_apply]
    generalize val_main_v99 (F := Ideal) x1 x2 = h
    show _ + _ * (Ideal.div (h i) (Ideal.ofBits .f32 0x00000000#32 + _ + _) * _) = _
    rw [Ideal.ofBits_zero_f32, zero_add]
    rfl
  funext i
  rw [val_main_v116_apply, val_main_v114_apply, val_main_v113_apply, val_main_v112_apply, val_main_v111_apply,
    val_main_v115_apply, val_main_cst_41_apply, ema, funext h110]
  dsimp only
  show Ideal.div _ (Ideal.ofBits .f32 0x00000000#32 + _ + _) * _ = _
  rw [Ideal.ofBits_zero_f32, zero_add]
  rfl

variable (h1 : ∀ i, 0 ≤ x1 i ∧ x1 i ≤ 1) (h2 : ∀ i, x2 i = 1)

/-- Row and column of a place in the flattened array. -/
def rc (k : Fin 16384000) : S16384x1000.Idx :=
  ix2 (⟨k.val / 1000, by omega⟩ : Fin 16384) (⟨k.val % 1000, by omega⟩ : Fin 1000)

/-- The place of row `r` and column `l`. -/
theorem rc_pair (r : Fin 16384) (l : Fin 1000) : rc (finProdFinEquiv (r, l)) = ix2 r l := by
  have hv : (finProdFinEquiv (r, l) : Fin (16384 * 1000)).val = l.val + 1000 * r.val := rfl
  have hr : (finProdFinEquiv (r, l) : Fin (16384 * 1000)).val / 1000 = r.val := by rw [hv]; omega
  have hl : (finProdFinEquiv (r, l) : Fin (16384 * 1000)).val % 1000 = l.val := by rw [hv]; omega
  rw [rc]
  exact congrArg₂ ix2 (Fin.ext hr) (Fin.ext hl)

/-- As many ones as a grid has cells. -/
theorem sum_ones (m n : ℕ) : ∑ _ : Fin m, ∑ _ : Fin n, (1 : EReal) = (((m : ℝ) * (n : ℝ) : ℝ) : EReal) := by
  rw [← EReal.coe_one]
  simp only [← coe_sum]
  simp

/-- A sum over the flattened array goes row by row. -/
theorem sum_rc {A : Type} [AddCommMonoid A] (f : S16384x1000.Idx → A) :
    ∑ k, f (rc k) = ∑ r : Fin 16384, ∑ l : Fin 1000, f (ix2 r l) :=
  (sum_split 16384 1000 fun k => f (rc k)).trans
    (Finset.sum_congr rfl fun r _ => Finset.sum_congr rfl fun l _ => congrArg f (rc_pair r l))

include h1 h2

/-- The flattened word of a place's gradient bin. -/
theorem v71_cell (k : Fin 16384000) : val_main_v71 (F := Ideal) x0 x1 (ix2 k (0 : Fin 1))
    = BitVec.ofNat 32 (gBin (x0 (rc k)) (x1 (rc k))).val := by
  have e63 : ∀ i : S16384000.Idx, val_main_v63 (F := Ideal) x0 x1 i
      = BitVec.ofNat 32 (gBin (x0 (rc (i 0))) (x1 (rc (i 0)))).val := fun i => by
    rw [val_main_v63_apply, show idx_main_v63 i = rc (i 0) from
      funext fun a => match a with | ⟨0, _⟩ => rfl | ⟨1, _⟩ => rfl]
    exact v21_cell x0 x1 _ (h1 _).1 (h1 _).2
  have hs : ∀ i : S16384000.Idx, (gBin (x0 (rc (i 0))) (x1 (rc (i 0)))).val < 2 ^ 31 := fun i => by
    have := (gBin (x0 (rc (i 0))) (x1 (rc (i 0)))).isLt; omega
  have e65 : ∀ i : S16384000.Idx, val_main_v65 (F := Ideal) x0 x1 i
      = BitVec.ofNat 32 (gBin (x0 (rc (i 0))) (x1 (rc (i 0)))).val := fun i => by
    rw [val_main_v65_apply, e63, val_main_call4_v1_apply]
    exact maxsi_small _ (hs i)
  rw [val_main_v71_apply, val_main_v70_apply, val_main_v67_apply, e65, val_main_v66_apply]
  exact wrap_small _ (hs _) _

/-- The flattened word of a place's label place. -/
theorem v98_cell (k : Fin 16384000) : val_main_v98 (F := Ideal) x1 (ix2 k (0 : Fin 1))
    = BitVec.ofNat 32 (slot ((rc k) 1) (cBin (x1 (rc k)))).val := by
  have e90 : ∀ i : S16384000.Idx, val_main_v90 (F := Ideal) x1 i
      = BitVec.ofNat 32 (slot ((rc (i 0)) 1) (cBin (x1 (rc (i 0))))).val := fun i => by
    rw [val_main_v90_apply, show idx_main_v90 i = rc (i 0) from
      funext fun a => match a with | ⟨0, _⟩ => rfl | ⟨1, _⟩ => rfl]
    exact v43_cell x1 _ _ (h1 _).1 (h1 _).2
  have hs : ∀ i : S16384000.Idx, (slot ((rc (i 0)) 1) (cBin (x1 (rc (i 0))))).val < 2 ^ 31 := fun i => by
    have := (slot ((rc (i 0)) 1) (cBin (x1 (rc (i 0))))).isLt; omega
  have e92 : ∀ i : S16384000.Idx, val_main_v92 (F := Ideal) x1 i
      = BitVec.ofNat 32 (slot ((rc (i 0)) 1) (cBin (x1 (rc (i 0))))).val := fun i => by
    rw [val_main_v92_apply, e90, val_main_call5_v1_apply]
    exact maxsi_small _ (hs i)
  rw [val_main_v98_apply, val_main_v97_apply, val_main_v94_apply, e92, val_main_v93_apply]
  exact wrap_small _ (hs _) _

/-- The gradient's histogram. -/
theorem v72_count (j : Fin 10) : val_main_v72 (F := Ideal) x0 x1 x2 (ix1 j)
    = ((∑ r : Fin 16384, ∑ l : Fin 1000,
        atBin j.val (gBin (x0 (ix2 r l)) (x1 (ix2 r l))).val : ℝ) : EReal) := by
  rw [← sum_rc fun i => atBin j.val (gBin (x0 i) (x1 i)).val]
  have hz : ∀ x, val_main_v64 (F := Ideal) x = (0 : EReal) := fun x =>
    (val_main_v64_apply (F := Ideal) x).trans Ideal.ofBits_zero_f32
  have hu : ∀ i, val_main_v62 (F := Ideal) x2 i = (1 : EReal) := fun i =>
    (val_main_v62_apply (F := Ideal) x2 i).trans (h2 _)
  have hb := v71_cell x0 x1 x2 h1 h2
  unfold val_main_v72
  generalize val_main_v64 (F := Ideal) = z at hz ⊢
  generalize val_main_v62 (F := Ideal) x2 = u at hu ⊢
  generalize val_main_v71 (F := Ideal) x0 x1 = w at hb ⊢
  rw [Host.scatterAdd, Ideal.hostScatterAdd_def]
  generalize hd : scatter_S10_S16384000x1_S16384000_n_0_0_1 = d
  exact scatter_ones d (by rw [← hd]; rfl) (by rw [← hd]; rfl) (by rw [← hd]; rfl) (by decide) z hz w u hu _ hb j

/-- The label's histogram, before sorting by column. -/
theorem v99_count (j : Fin 3000) : val_main_v99 (F := Ideal) x1 x2 (ix1 j)
    = ((∑ r : Fin 16384, ∑ l : Fin 1000, atBin j.val (slot l (cBin (x1 (ix2 r l)))).val : ℝ) : EReal) := by
  refine Eq.trans ?_ (congrArg _ (sum_rc fun i => atBin j.val (slot (i 1) (cBin (x1 i))).val))
  have hz : ∀ x, val_main_v91 (F := Ideal) x = (0 : EReal) := fun x =>
    (val_main_v91_apply (F := Ideal) x).trans Ideal.ofBits_zero_f32
  have hu : ∀ i, val_main_v62 (F := Ideal) x2 i = (1 : EReal) := fun i =>
    (val_main_v62_apply (F := Ideal) x2 i).trans (h2 _)
  have hb := v98_cell x1 x2 h1 h2
  unfold val_main_v99
  generalize val_main_v91 (F := Ideal) = z at hz ⊢
  generalize val_main_v62 (F := Ideal) x2 = u at hu ⊢
  generalize val_main_v98 (F := Ideal) x1 = w at hb ⊢
  rw [Host.scatterAdd, Ideal.hostScatterAdd_def]
  generalize hd : scatter_S3000_S16384000x1_S16384000_n_0_0_1 = d
  exact scatter_ones d (by rw [← hd]; rfl) (by rw [← hd]; rfl) (by rw [← hd]; rfl) (by decide) z hz w u hu _ hb j

/-- The label's histogram: each column counts its own bins. -/
theorem v99_slot (l : Fin 1000) (j : Fin 3) : val_main_v99 (F := Ideal) x1 x2 (ix1 (slot l j))
    = ((∑ r : Fin 16384, atBin j.val (cBin (x1 (ix2 r l))).val : ℝ) : EReal) := by
  rw [v99_count x1 x2 h1 h2]
  refine congrArg _ (Finset.sum_congr rfl fun r _ => ?_)
  have key : ∀ l' : Fin 1000, atBin (slot l j).val (slot l' (cBin (x1 (ix2 r l')))).val
      = if l' = l then atBin j.val (cBin (x1 (ix2 r l))).val else 0 := fun l' => by
    by_cases h : l' = l
    · subst h
      rw [if_pos rfl, atBin, atBin]
      refine if_congr ?_ rfl rfl
      show _ + _ = _ + _ ↔ _
      omega
    · rw [if_neg h, atBin]
      refine if_neg fun e => h (Fin.ext ?_)
      have e' : (cBin (x1 (ix2 r l'))).val + 3 * l'.val = j.val + 3 * l.val := e
      have := (cBin (x1 (ix2 r l'))).isLt
      have := j.isLt
      omega
  rw [Finset.sum_congr rfl fun l' _ => key l', Finset.sum_ite_eq' Finset.univ l, if_pos (Finset.mem_univ l)]

/-- The mean loss: the sum over all rows and columns over their number. -/
theorem v61_mean (h3 : ∀ k, 0 ≤ x3 k) (h4 : ∀ k, 0 ≤ x4 k) (i : S_.Idx) :
    val_main_v61 (F := Ideal) x0 x1 x2 x3 x4 i
      = Ideal.div (∑ r : Fin 16384, ∑ l : Fin 1000, rawS (x0 (ix2 r l)) (x1 (ix2 r l))
          * (Ideal.sqrt (wPre (x3 (ix1 (gBin (x0 (ix2 r l)) (x1 (ix2 r l))))))
            * Ideal.sqrt (wPre (x4 (ix1 (slot l (cBin (x1 (ix2 r l)))))))))
        ((16384000 : ℝ) : EReal) := by
  have hm : ∑ j : S16384x1000.Idx, x2 j = ((16384000 : ℝ) : EReal) := by
    rw [sum_idx2, Finset.sum_congr rfl fun r _ => Finset.sum_congr rfl fun l _ => h2 (ix2 r l), sum_ones]
    norm_num
  have hs : ∑ r : Fin 16384, ∑ l : Fin 1000, val_main_v58 (F := Ideal) x0 x1 x2 x3 x4 (ix2 r l) = _ :=
    Finset.sum_congr rfl fun r _ => Finset.sum_congr rfl fun l _ =>
      v58_cell x0 x1 r l (h1 _).1 (h1 _).2 x2 x3 x4 (h2 _) h3 h4
  rw [val_main_v61_apply, val_main_v59_apply, val_main_v60_apply, val_main_cst_18_apply, val_main_cst_19_apply,
    hm, sum_idx2, hs]
  show Ideal.div (Ideal.ofBits .f32 0x00000000#32 + _) (Ideal.ofBits .f32 0x00000000#32 + _) = _
  rw [Ideal.ofBits_zero_f32, zero_add, zero_add]

end Results

end Cert.ReferenceIdeal.Cell
-- ==== Proof.Equal.lean ====
/- The kernel's three results are the reference's. -/
module

public import proofs.«01_k».proof.Proof.Tail
public import proofs.«01_k».proof.Proof.KOut
public import proofs.«01_k».proof.Proof.Ref

@[expose] public section

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen
open Cert.ReferenceIdeal.Cell Cert.ReferenceIdeal.Read

variable (m : (ℓ : Loc nD τ sig) → Buf (Elt Ideal) ℓ) (c : Dev nD)

/-- The logits. -/
abbrev aX : S16384x1000.Idx → EReal := m ((c.tc : Thread nD τ).loc main_arg0)
/-- The targets. -/
abbrev aT : S16384x1000.Idx → EReal := m ((c.tc : Thread nD τ).loc main_arg1)
/-- The mask. -/
abbrev aM : S16384x1000.Idx → EReal := m ((c.tc : Thread nD τ).loc main_arg2)
/-- The gradient's running counts. -/
abbrev aG : S10.Idx → EReal := m ((c.tc : Thread nD τ).loc main_arg3)
/-- The label's running counts. -/
abbrev aL : S3000.Idx → EReal := m ((c.tc : Thread nD τ).loc main_arg4)

/-- The targets are probabilities, the mask is one everywhere, the running counts are not negative. -/
structure Good : Prop where
  target : ∀ i, 0 ≤ aT m c i ∧ aT m c i ≤ 1
  mask : ∀ i, aM m c i = 1
  gd : ∀ i, 0 ≤ aG m c i
  label : ∀ i, 0 ≤ aL m c i

/-- A lane's sum is over the given logits and targets. -/
theorem laneSum_eq (f : EReal → EReal → EReal) (l : Fin 1000) :
    laneSum m f c l = ∑ r : Fin 16384, f (aX m c (ix2 r l)) (aT m c (ix2 r l)) := by
  rw [laneSum, bigX_eq, bigT_eq]

variable (h : Good m c)
include h

/-- The mean losses agree. -/
theorem loss_eq : kOut0 m c = val_main_v61 (F := Ideal) (aX m c) (aT m c) (aM m c) (aG m c) (aL m c) := by
  funext i
  have hk : kOut0 m c i = Ideal.div (∑ l : Fin 1000, laneSum m (lossTerm (gdL m c) (ltC m c) l) c l) ((16384000 : ℝ) : EReal) := by
    rw [kOut0, (fin567 m c).1, ← Finset.sum_congr rfl fun l _ => (acc m c l).1]
    exact (cast_scalar _ i).trans (mean_apply _ _)
  rw [hk, v61_mean _ _ _ _ _ h.target h.mask h.gd h.label, Finset.sum_comm]
  have hl : ∀ l : Fin 1000, laneSum m (lossTerm (gdL m c) (ltC m c) l) c l = ∑ r : Fin 16384,
      rawS (aX m c (ix2 r l)) (aT m c (ix2 r l))
        * (Ideal.sqrt (wPre (aG m c (ix1 (gBin (aX m c (ix2 r l)) (aT m c (ix2 r l))))))
          * Ideal.sqrt (wPre (aL m c (ix1 (slot l (cBin (aT m c (ix2 r l)))))))) := fun l => by
    rw [laneSum_eq]
    refine Finset.sum_congr rfl fun r _ => ?_
    have ht := h.target (ix2 r l)
    rw [lossTerm, gwS_cell _ _ ht.1 ht.2, cwS_cell _ ht.1 ht.2, gdL_eq, ltC_apply]
    rfl
  rw [Finset.sum_congr rfl fun l _ => hl l]

/-- The gradient tables agree. -/
theorem gd_eq : kOut1 m c = val_main_v89 (F := Ideal) (aX m c) (aT m c) (aM m c) (aG m c) := by
  funext i
  obtain ⟨j, rfl⟩ : ∃ j : Fin 10, i = ix1 j := ⟨i 0, eq_ix1 i⟩
  have hk : kOut1 m c (ix1 j) = k0_pay1659 (F := Ideal) (outsAt0 m c tLast.val tLast.isLt).2.2.2.2.1 (gdC m c) (ix2 j 0) := by
    rw [kOut1, (fin567 m c).2.1]
    exact cast_column _ j
  have hv : ∀ (k : Fin 9) (l : Fin 1000), (outsAt0 m c tLast.val tLast.isLt).2.2.2.2.1 (ix2 k l)
      = ((∑ r : Fin 16384, reach (k.val + 1) (gBin (aX m c (ix2 r l)) (aT m c (ix2 r l))).val : ℝ) : EReal) := fun k l => by
    rw [(acc m c l).2.1 k, laneSum_eq, coe_sum]
    refine Finset.sum_congr rfl fun r _ => ?_
    have ht := h.target (ix2 r l)
    exact oneS_tenth_cell _ _ ht.1 ht.2 _ (by omega)
  rw [hk, pay1659_apply, v89_ema]
  refine Eq.trans ?_ (ema_equiv (idxEquiv1 (n := 10)).symm _ (val_main_v72 (F := Ideal) (aX m c) (aT m c) (aM m c)) _ j)
  refine congrArg₂ (fun p q => ema _ p q j) (funext fun k => ?_) (funext fun k => gdC_apply m c k)
  rw [Finset.sum_congr rfl fun l _ => cat10_count _ _ hv k l, coe_sum_comm]
  exact (v72_count _ _ _ h.target h.mask k).symm

/-- Bin and column, against the place in the flat table. -/
def place : Fin 3 × Fin 1000 ≃ S3000.Idx :=
  ((Equiv.prodComm (Fin 3) (Fin 1000)).trans (finProdFinEquiv (m := 1000) (n := 3))).trans (idxEquiv1 (n := 3000)).symm

/-- The label tables agree. -/
theorem label_eq : kOut2 m c = val_main_v116 (F := Ideal) (aT m c) (aM m c) (aL m c) := by
  funext i
  obtain ⟨⟨j, l⟩, rfl⟩ := place.surjective i
  have hk : kOut2 m c (place (j, l)) = k0_pay1661 (F := Ideal)
      (rowVec (outsAt0 m c tLast.val tLast.isLt).2.2.2.2.2 (0 : Fin 2))
      (rowVec (outsAt0 m c tLast.val tLast.isLt).2.2.2.2.2 (1 : Fin 2)) k0_pay1660 (ltC m c) (ix2 j l) := by
    rw [kOut2, (fin567 m c).2.2]
    exact cast_table _ j l _ rfl
  have hv : ∀ (k : Fin 2) (l : Fin 1000), rowVec (outsAt0 m c tLast.val tLast.isLt).2.2.2.2.2 k (ix2 0 l)
      = ((∑ r : Fin 16384, reach (k.val + 1) (cBin (aT m c (ix2 r l))).val : ℝ) : EReal) := fun k l => by
    rw [rowVec, rowRect_emb, (acc m c l).2.2 k, laneSum_eq, coe_sum]
    refine Finset.sum_congr rfl fun r _ => ?_
    have ht := h.target (ix2 r l)
    exact oneS_third_cell _ ht.1 ht.2 _ (by omega)
  rw [hk, pay1661_apply, v116_ema]
  refine Eq.trans ?_ (ema_equiv place _ (val_main_v99 (F := Ideal) (aT m c) (aM m c)) _ (j, l))
  refine congrArg₂ (fun p q => ema _ p q (j, l)) (funext fun k => ?_) (funext fun k => ltC_apply m c k.1 k.2)
  rw [cat3_count _ _ (fun r l => cBin (aT m c (ix2 r l))) (hv 0) (hv 1)]
  exact (v99_slot _ _ h.target h.mask k.2 k.1).symm

end Cert.KernelIdeal.Tile
-- ==== Proof.Pre.lean ====
/- What the precondition says of the argument arrays, cell by cell. -/
module

public import proofs.«01_k».proof.Defs
public import proofs.«01_k».proof.Proof.Equal

@[expose] public section

set_option maxRecDepth 16384

noncomputable section

namespace Cert.KernelIdeal.Tile

open Idealize.ShloMosaic

/-- The precondition spreads three constants over the shapes of the arrays it compares them with. -/
theorem preFacts : Cert.Pre_pre.Facts where
  bcast_S_S16384x1000 := by decide
  bcast_S_S10 := by decide
  bcast_S_S3000 := by decide

/-- A comparison bit "at least" is set when the order holds. -/
theorem le_of_oge {a b : EReal} (h : Ideal.cmp .oge a b = 1#1) : b ≤ a := by
  by_contra hn
  simp [Ideal.cmp, hn] at h

/-- A comparison bit "at most" is set when the order holds. -/
theorem le_of_ole {a b : EReal} (h : Ideal.cmp .ole a b = 1#1) : a ≤ b := by
  by_contra hn
  simp [Ideal.cmp, hn] at h

/-- A comparison bit "equal" is set when the two are one. -/
theorem eq_of_oeq {a b : EReal} (h : Ideal.cmp .oeq a b = 1#1) : a = b := by
  by_contra hn
  simp [Ideal.cmp, hn] at h

/-- A conjunction of two bits is set when both are. -/
theorem both_of_andi : ∀ a b : BitVec 1, IntOp.andi a b = 1#1 → a = 1#1 ∧ b = 1#1 := by
  decide

/-- The precondition gives every bound that the equality of the results needs. -/
theorem good_of_pre (m : (ℓ : Loc nD τ sig) → Buf (Elt Ideal) ℓ)
    (h : Cert.Pre_KernelIdeal_pre (hPre_pre := preFacts) m) (c : Dev nD) : Good m c := by
  obtain ⟨ht, hm, hg, hl⟩ := h c
  have bit : ∀ i, _ ∧ _ := fun i => both_of_andi _ _ (congrFun ht i)
  have z : ∀ a : EReal, Ideal.ofBits .f32 0x00000000#32 ≤ a → 0 ≤ a := fun a ha => by
    rwa [Ideal.ofBits_zero_f32] at ha
  exact {
    target := fun i => ⟨z _ (le_of_oge (bit i).1), by
      have := le_of_ole (bit i).2
      exact this.trans (le_of_eq Ideal.ofBits_one_f32)⟩
    mask := fun i => (eq_of_oeq (congrFun hm i)).trans Ideal.ofBits_one_f32
    gd := fun i => z _ (le_of_oge (congrFun hg i))
    label := fun i => z _ (le_of_oge (congrFun hl i)) }

end Cert.KernelIdeal.Tile

end
-- ==== Proof.lean ====
/- The claims about the gradient-and-label weighted loss: each program ends without fault, leaves its arguments
   as they were and every semaphore counter at zero; the kernel over the extended reals is the kernel with its
   ten thresholds read exactly; and it computes the three results of the reference. The mathematics is in
   the modules of `Proof/`; here the statements are put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- A constant that the ideal program names reads as its exact value, as a scalar and as an array. -/
theorem named {κ : String → Option EReal} {n : String} {b : BitVec 32} {x : EReal} (h : κ n = some x) :
    IdealRules.named_const.Statement κ n .f32 b x :=
  ⟨h, fun _ => IdealRules.named_const.ideal_named _ _ _ _ h, IdealRules.named_const.ideal_named_scalar _ _ _ _ h⟩

/-- The ten thresholds are the exact tenths and thirds. -/
theorem preserves : Cert.preserves_Kernel_KernelIdeal :=
  ⟨named rfl, named rfl, named rfl, named rfl, named rfl, named rfl, named rfl, named rfl, named rfl, named rfl⟩

/-- The reference ends with its arguments unchanged; it declares no semaphore, so every counter is zero. -/
theorem reference_frame : Cert.quiescent_ReferenceIdeal (hReferenceIdeal := Cert.ReferenceIdeal.Gen.facts) :=
  fun m ρ _ => (θ_run _ _ _).mono
    (fun r h => ⟨fun c => (h c).2.2.2, sem_eq_zero_of_no_sems rfl r.2⟩)
    (Cert.ReferenceIdeal.Value.run m ρ)

/-- A function takes one value at equal arguments. -/
theorem at_equal {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  subst ha hb hc hd he; rfl

/-- Under the precondition the kernel's three results are the reference's. -/
theorem algebraic : Cert.algebraic_KernelIdeal_ReferenceIdeal_pre_pre (hKernelIdeal := Cert.KernelIdeal.Gen.facts)
    (hReferenceIdeal := Cert.ReferenceIdeal.Gen.facts) (hPre_pre := Cert.KernelIdeal.Tile.preFacts) := by
  intro m g m' g' hp ha
  have hgood := Cert.KernelIdeal.Tile.good_of_pre m hp
  refine ⟨fun c => Cert.KernelIdeal.Tile.kOut0 m c, fun c => Cert.KernelIdeal.Tile.kOut1 m c,
    fun c => Cert.KernelIdeal.Tile.kOut2 m c, ?_, ?_⟩
  · refine (θ_run _ _ _).mono (fun r h c => ?_) (Cert.KernelIdeal.Tile.run_values m g)
    obtain ⟨⟨h0, h1, h2⟩, h3⟩ := h c
    exact ⟨h0, h1, h2, h3⟩
  · refine (θ_run _ _ _).mono (fun r h c => ?_) (Cert.ReferenceIdeal.Value.run m' g')
    obtain ⟨h0, h1, h2, h3⟩ := h c
    obtain ⟨a0, a1, a2, a3, a4⟩ := ha c
    refine ⟨h0.trans ?_, h1.trans ?_, h2.trans ?_, h3⟩
    · exact (Cert.ReferenceIdeal.Read.val_main_v61_eq _).trans
        ((at_equal (Cert.ReferenceIdeal.Read.val_main_v61 (F := Ideal)) a0 a1 a2 a3 a4).trans
          (Cert.KernelIdeal.Tile.loss_eq m c (hgood c)).symm)
    · exact (Cert.ReferenceIdeal.Read.val_main_v89_eq _).trans
        ((at_equal (fun a b d e _ => Cert.ReferenceIdeal.Read.val_main_v89 (F := Ideal) a b d e) a0 a1 a2 a3 a4).trans
          (Cert.KernelIdeal.Tile.gd_eq m c (hgood c)).symm)
    · exact (Cert.ReferenceIdeal.Read.val_main_v116_eq _).trans
        ((at_equal (fun _ b d _ e => Cert.ReferenceIdeal.Read.val_main_v116 (F := Ideal) b d e) a0 a1 a2 a3 a4).trans
          (Cert.KernelIdeal.Tile.label_eq m c (hgood c)).symm)

/-- All claims. -/
theorem claim : Cert.Claim :=
  ⟨Cert.Kernel.Gen.facts, Cert.KernelIdeal.Gen.facts, Cert.ReferenceIdeal.Gen.facts, Cert.KernelIdeal.Tile.preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    preserves,
    algebraic⟩

end Cert.Proof

end
